-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![16, 16, 16]⟩ ⟨3, ![32, 32, 64]⟩ (Layout.meshBlock [2, 2, 4] ![[0], [1], [2]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![16, 16, 16]⟩ ⟨3, ![32, 32, 64]⟩ (Layout.meshBlock [2, 2, 4] ![[0], [1], [2]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x16x16 : Shape := ⟨3, ![16, 16, 16]⟩
abbrev S1x16x16 : Shape := ⟨3, ![1, 16, 16]⟩
abbrev S16x1x16 : Shape := ⟨3, ![16, 1, 16]⟩
abbrev S16x16x1 : Shape := ⟨3, ![16, 16, 1]⟩
abbrev S2x1x16x16 : Shape := ⟨4, ![2, 1, 16, 16]⟩
abbrev S2x16x1x16 : Shape := ⟨4, ![2, 16, 1, 16]⟩
abbrev S2x16x16x1 : Shape := ⟨4, ![2, 16, 16, 1]⟩
abbrev S4 : Shape := ⟨1, ![4]⟩
abbrev S_ : Shape := ⟨0, ![]⟩
abbrev S1 : Shape := ⟨1, ![1]⟩
abbrev S1x1x16x16 : Shape := ⟨4, ![1, 1, 16, 16]⟩
abbrev S1x16x1x16 : Shape := ⟨4, ![1, 16, 1, 16]⟩
abbrev S1x16x16x1 : Shape := ⟨4, ![1, 16, 16, 1]⟩
abbrev S15x16x16 : Shape := ⟨3, ![15, 16, 16]⟩
abbrev S16x15x16 : Shape := ⟨3, ![16, 15, 16]⟩
abbrev S16x16x15 : Shape := ⟨3, ![16, 16, 15]⟩

abbrev nBuf : Space → Nat
  | .hbm => 2
  | .vmem => 9
  | .smem => 0
  | _ => 0

abbrev bufTy : (tb : Table) → Fin (tcTables nBuf tb) → BufTy
  | .hbm, ⟨0, _⟩ => ⟨S16x16x16, .f32⟩
  | .hbm, ⟨1, _⟩ => ⟨S16x16x16, .f32⟩
  | .local _ .vmem, ⟨0, _⟩ => ⟨S16x16x16, .f32⟩
  | .local _ .vmem, ⟨1, _⟩ => ⟨S16x16x16, .f32⟩
  | .local _ .vmem, ⟨2, _⟩ => ⟨S1x16x16, .f32⟩
  | .local _ .vmem, ⟨3, _⟩ => ⟨S16x1x16, .f32⟩
  | .local _ .vmem, ⟨4, _⟩ => ⟨S16x16x1, .f32⟩
  | .local _ .vmem, ⟨5, _⟩ => ⟨S16x16x1, .f32⟩
  | .local _ .vmem, ⟨6, _⟩ => ⟨S2x1x16x16, .f32⟩
  | .local _ .vmem, ⟨7, _⟩ => ⟨S2x16x1x16, .f32⟩
  | .local _ .vmem, ⟨8, _⟩ => ⟨S2x16x16x1, .f32⟩
  | _, _ => ⟨S16x16x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_5 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v12 : BitVec 32 := Scalar.subi c1_i32_2 v2
  let c8_i32_4 : BitVec 32 := 8#32
  let v13 : BitVec 32 := Scalar.muli v12 c8_i32_4
  let v14 : BitVec 32 := Scalar.addi c0_i32_5 v13
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_6 : BitVec 32 := 4#32
  let v15 : BitVec 32 := Scalar.muli v5 c4_i32_6
  let v16 : BitVec 32 := Scalar.addi v14 v15
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v17 : BitVec 32 := Scalar.muli v8 c1_i32_7
  let v18 : BitVec 32 := Scalar.addi v16 v17
  v18.toNat
def k0_dev2 (d0 : Dev nD) : Nat :=
  let c0_i32_11 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_10 : BitVec 32 := 8#32
  let v20 : BitVec 32 := Scalar.muli v2 c8_i32_10
  let v21 : BitVec 32 := Scalar.addi c0_i32_11 v20
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_8 v5
  let c4_i32_12 : BitVec 32 := 4#32
  let v22 : BitVec 32 := Scalar.muli v19 c4_i32_12
  let v23 : BitVec 32 := Scalar.addi v21 v22
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_13 : BitVec 32 := 1#32
  let v24 : BitVec 32 := Scalar.muli v8 c1_i32_13
  let v25 : BitVec 32 := Scalar.addi v23 v24
  v25.toNat
def k0_cond1 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v10 : BitVec 1 := Scalar.cmpi .slt v8 c3_i32
  let v26 : BitVec 32 := Scalar.extui v10
  let c0_i32_14 : BitVec 32 := 0#32
  let v27 : BitVec 1 := Scalar.cmpi .ne v26 c0_i32_14
  v27

def k0_dev3 (d0 : Dev nD) : Nat :=
  let c0_i32_163 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_162 : BitVec 32 := 8#32
  let v265 : BitVec 32 := Scalar.muli v2 c8_i32_162
  let v266 : BitVec 32 := Scalar.addi c0_i32_163 v265
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_164 : BitVec 32 := 4#32
  let v267 : BitVec 32 := Scalar.muli v5 c4_i32_164
  let v268 : BitVec 32 := Scalar.addi v266 v267
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_160 : BitVec 32 := 1#32
  let v264 : BitVec 32 := Scalar.addi v8 c1_i32_160
  let c1_i32_165 : BitVec 32 := 1#32
  let v269 : BitVec 32 := Scalar.muli v264 c1_i32_165
  let v270 : BitVec 32 := Scalar.addi v268 v269
  v270.toNat
def k0_cond2 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .sgt v8 c0_i32
  let v28 : BitVec 32 := Scalar.extui v9
  let c0_i32_15 : BitVec 32 := 0#32
  let v29 : BitVec 1 := Scalar.cmpi .ne v28 c0_i32_15
  v29

def k0_dev4 (d0 : Dev nD) : Nat :=
  let c0_i32_163 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_162 : BitVec 32 := 8#32
  let v265 : BitVec 32 := Scalar.muli v2 c8_i32_162
  let v266 : BitVec 32 := Scalar.addi c0_i32_163 v265
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_164 : BitVec 32 := 4#32
  let v267 : BitVec 32 := Scalar.muli v5 c4_i32_164
  let v268 : BitVec 32 := Scalar.addi v266 v267
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_160 : BitVec 32 := 1#32
  let v264 : BitVec 32 := Scalar.subi v8 c1_i32_160
  let c1_i32_165 : BitVec 32 := 1#32
  let v269 : BitVec 32 := Scalar.muli v264 c1_i32_165
  let v270 : BitVec 32 := Scalar.addi v268 v269
  v270.toNat
def k0_off1 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_16 : BitVec 32 := 0#32
  let v30 : BitVec 1 := Scalar.cmpi .eq v2 c0_i32_16
  let c15_i32 : BitVec 32 := 15#32
  let c0_i32_17 : BitVec 32 := 0#32
  let v31 : BitVec 32 := Scalar.select v30 c15_i32 c0_i32_17
  let v32 : Index := Scalar.indexCast v31
  let c0 : Index := 0#32
  let c0_18 : Index := 0#32
  ![v32.toNat, 0, 0]
def k0_off2 (d0 : Dev nD) : Fin 3 → Nat :=
  let c0_25 : Index := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_22 : BitVec 32 := 0#32
  let v38 : BitVec 1 := Scalar.cmpi .eq v5 c0_i32_22
  let c15_i32_23 : BitVec 32 := 15#32
  let c0_i32_24 : BitVec 32 := 0#32
  let v39 : BitVec 32 := Scalar.select v38 c15_i32_23 c0_i32_24
  let v40 : Index := Scalar.indexCast v39
  let c0_26 : Index := 0#32
  ![0, v40.toNat, 0]
def k0_off3 (d0 : Dev nD) : Fin 4 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_50 : BitVec 32 := 0#32
  let c0_i32_51 : BitVec 32 := 0#32
  let c0_i32_52 : BitVec 32 := 0#32
  ![v2.toNat, 0, 0, 0]
def k0_dev5 (d0 : Dev nD) : Nat :=
  let c0_i32_47 : BitVec 32 := 0#32
  let c1_i32_43 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v62 : BitVec 32 := Scalar.subi c1_i32_43 v2
  let c8_i32_46 : BitVec 32 := 8#32
  let v63 : BitVec 32 := Scalar.muli v62 c8_i32_46
  let v64 : BitVec 32 := Scalar.addi c0_i32_47 v63
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_48 : BitVec 32 := 4#32
  let v65 : BitVec 32 := Scalar.muli v5 c4_i32_48
  let v66 : BitVec 32 := Scalar.addi v64 v65
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_49 : BitVec 32 := 1#32
  let v67 : BitVec 32 := Scalar.muli v8 c1_i32_49
  let v68 : BitVec 32 := Scalar.addi v66 v67
  v68.toNat
def k0_off4 (d0 : Dev nD) : Fin 4 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_60 : BitVec 32 := 0#32
  let c0_i32_61 : BitVec 32 := 0#32
  let c0_i32_62 : BitVec 32 := 0#32
  ![v5.toNat, 0, 0, 0]
def k0_dev6 (d0 : Dev nD) : Nat :=
  let c0_i32_57 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_56 : BitVec 32 := 8#32
  let v76 : BitVec 32 := Scalar.muli v2 c8_i32_56
  let v77 : BitVec 32 := Scalar.addi c0_i32_57 v76
  let c1_i32_53 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v75 : BitVec 32 := Scalar.subi c1_i32_53 v5
  let c4_i32_58 : BitVec 32 := 4#32
  let v78 : BitVec 32 := Scalar.muli v75 c4_i32_58
  let v79 : BitVec 32 := Scalar.addi v77 v78
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_59 : BitVec 32 := 1#32
  let v80 : BitVec 32 := Scalar.muli v8 c1_i32_59
  let v81 : BitVec 32 := Scalar.addi v79 v80
  v81.toNat
def k0_cond5 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v10 : BitVec 1 := Scalar.cmpi .slt v8 c3_i32
  let v88 : BitVec 32 := Scalar.extui v10
  let c0_i32_63 : BitVec 32 := 0#32
  let v89 : BitVec 1 := Scalar.cmpi .ne v88 c0_i32_63
  v89

def k0_dev7 (d0 : Dev nD) : Nat :=
  let c0_i32_165 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_164 : BitVec 32 := 8#32
  let v265 : BitVec 32 := Scalar.muli v2 c8_i32_164
  let v266 : BitVec 32 := Scalar.addi c0_i32_165 v265
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_166 : BitVec 32 := 4#32
  let v267 : BitVec 32 := Scalar.muli v5 c4_i32_166
  let v268 : BitVec 32 := Scalar.addi v266 v267
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_160 : BitVec 32 := 1#32
  let v264 : BitVec 32 := Scalar.addi v8 c1_i32_160
  let c1_i32_167 : BitVec 32 := 1#32
  let v269 : BitVec 32 := Scalar.muli v264 c1_i32_167
  let v270 : BitVec 32 := Scalar.addi v268 v269
  v270.toNat
def k0_cond6 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .sgt v8 c0_i32
  let v90 : BitVec 32 := Scalar.extui v9
  let c0_i32_64 : BitVec 32 := 0#32
  let v91 : BitVec 1 := Scalar.cmpi .ne v90 c0_i32_64
  v91

def k0_dev8 (d0 : Dev nD) : Nat :=
  let c0_i32_165 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_164 : BitVec 32 := 8#32
  let v265 : BitVec 32 := Scalar.muli v2 c8_i32_164
  let v266 : BitVec 32 := Scalar.addi c0_i32_165 v265
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_166 : BitVec 32 := 4#32
  let v267 : BitVec 32 := Scalar.muli v5 c4_i32_166
  let v268 : BitVec 32 := Scalar.addi v266 v267
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_160 : BitVec 32 := 1#32
  let v264 : BitVec 32 := Scalar.subi v8 c1_i32_160
  let c1_i32_167 : BitVec 32 := 1#32
  let v269 : BitVec 32 := Scalar.muli v264 c1_i32_167
  let v270 : BitVec 32 := Scalar.addi v268 v269
  v270.toNat
abbrev stage0_0 : Fin 1 → Memref sig .tc .vmem S16x16x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x16x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S32x32x64 : Shape := ⟨3, ![32, 32, 64]⟩
abbrev S30x30x62 : Shape := ⟨3, ![30, 30, 62]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S32x32x64, .f32⟩
  | .hbm, ⟨1, _⟩ => ⟨S30x30x62, .f32⟩
  | .hbm, ⟨2, _⟩ => ⟨S30x30x62, .f32⟩
  | .hbm, ⟨3, _⟩ => ⟨S30x30x62, .f32⟩
  | .hbm, ⟨4, _⟩ => ⟨S30x30x62, .f32⟩
  | .hbm, ⟨5, _⟩ => ⟨S30x30x62, .f32⟩
  | .hbm, ⟨6, _⟩ => ⟨S30x30x62, .f32⟩
  | .hbm, ⟨7, _⟩ => ⟨S30x30x62, .f32⟩
  | .hbm, ⟨8, _⟩ => ⟨S30x30x62, .f32⟩
  | .hbm, ⟨9, _⟩ => ⟨S30x30x62, .f32⟩
  | .hbm, ⟨10, _⟩ => ⟨S30x30x62, .f32⟩
  | .hbm, ⟨11, _⟩ => ⟨S30x30x62, .f32⟩
  | .hbm, ⟨12, _⟩ => ⟨S30x30x62, .f32⟩
  | .hbm, ⟨13, _⟩ => ⟨S_, .f32⟩
  | .hbm, ⟨14, _⟩ => ⟨S30x30x62, .f32⟩
  | .hbm, ⟨15, _⟩ => ⟨S30x30x62, .f32⟩
  | .hbm, ⟨16, _⟩ => ⟨S30x30x62, .f32⟩
  | .hbm, ⟨17, _⟩ => ⟨S_, .i32⟩
  | .hbm, ⟨18, _⟩ => ⟨S_, .f32⟩
  | .hbm, ⟨19, _⟩ => ⟨S32x32x64, .f32⟩
  | _, _ => ⟨S32x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_cst : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_c : Ref sig .tc := ⟨.hbm, 17, rfl⟩
abbrev main_call0_v0 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== Proof.HaloIdeal.lean ====
/-
  The halo exchange of the idealized kernel as a protocol: the mesh, the four directions a face travels in, the
  semaphores and buffers each direction uses, and the schedule of who pays which semaphore with what.

  The sixteen devices form a 2 x 2 x 4 box, device id = 8 x + 4 y + z. A device sends at most four faces: across `x`
  (two devices, so the neighbour is the other one), across `y` likewise, up (`z + 1`) and down (`z - 1`). Along `z` the
  box has ends, and there the face is not sent. One round of one protocol covers all four directions:

  * a device enters the barrier of each neighbour it has, and by that hands the neighbour the slot the neighbour's face
    will land in;
  * having waited for its own barrier it owns the landing slots on its neighbours, and copies its faces there;
  * it waits for the faces that come to it, and at the end for its own copies to have left.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.MemrefSat
public import Idealize.ShloMosaic.Lib.Rounds
public import Idealize.ShloMosaic.Lib.Tactic

@[expose] public section

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The mesh -/

/-- The four directions a face travels in: across `x`, across `y`, up and down along `z`. -/
inductive Dir
  | x | y | up | dn
  deriving DecidableEq

instance : Fintype Dir := ⟨{.x, .y, .up, .dn}, fun d => by cases d <;> decide⟩

/-- The direction back. -/
def opp : Dir → Dir
  | .x => .x
  | .y => .y
  | .up => .dn
  | .dn => .up

/-- The device one step away. Along `z` the step wraps around, so that a step is a permutation of the devices; the
    wrapped step is never used (`has`). -/
def nb : Dir → Dev nD → Dev nD
  | .x, c => ⟨(c.val + 8) % 16, Nat.mod_lt _ (by decide)⟩
  | .y, c => ⟨8 * (c.val / 8) + (c.val % 8 + 4) % 8, by have h : c.val < 16 := c.isLt; show _ < 16; omega⟩
  | .up, c => ⟨4 * (c.val / 4) + (c.val % 4 + 1) % 4, by have h : c.val < 16 := c.isLt; show _ < 16; omega⟩
  | .dn, c => ⟨4 * (c.val / 4) + (c.val % 4 + 3) % 4, by have h : c.val < 16 := c.isLt; show _ < 16; omega⟩

/-- Whether a device has a neighbour in a direction: always across `x` and `y`; up unless it is at the top, down unless at
    the bottom. -/
def has : Dir → Dev nD → Bool
  | .x, _ => true
  | .y, _ => true
  | .up, c => decide (c.val % 4 < 3)
  | .dn, c => decide (0 < c.val % 4)

theorem opp_opp (d : Dir) : opp (opp d) = d := by cases d <;> rfl
theorem opp_eq_iff {d e : Dir} : opp d = e ↔ d = opp e := by cases d <;> cases e <;> decide
theorem nb_opp (d : Dir) (c : Dev nD) : nb (opp d) (nb d c) = c := by cases d <;> revert c <;> decide
theorem nb_opp' (d : Dir) (c : Dev nD) : nb d (nb (opp d) c) = c := by cases d <;> revert c <;> decide
theorem has_nb (d : Dir) (c : Dev nD) : has (opp d) (nb d c) = has d c := by cases d <;> revert c <;> decide
theorem has_nb' (d : Dir) (c : Dev nD) : has d (nb (opp d) c) = has (opp d) c := by cases d <;> revert c <;> decide
theorem nb_eq_iff {d : Dir} {a b : Dev nD} : nb d a = b ↔ a = nb (opp d) b :=
  ⟨fun h => by rw [← h, nb_opp], fun h => by rw [h, nb_opp']⟩

/-- A step as a permutation of the devices. -/
def step (d : Dir) : Dev nD ≃ Dev nD := ⟨nb d, nb (opp d), nb_opp d, nb_opp' d⟩

/-- How many neighbours a device has. -/
def deg (c : Dev nD) : ℕ := (Finset.univ.filter fun d => has d c = true).card

/-- The devices and conditions the program computes from its device id, as steps. -/
theorem dev1_eq (c : Dev nD) : (⟨k0_dev1 c, k0_dev1_lt c⟩ : Dev nD) = nb .x c := by revert c; decide +kernel
theorem dev2_eq (c : Dev nD) : (⟨k0_dev2 c, k0_dev2_lt c⟩ : Dev nD) = nb .y c := by revert c; decide +kernel
theorem dev5_eq (c : Dev nD) : (⟨k0_dev5 c, k0_dev5_lt c⟩ : Dev nD) = nb .x c := by revert c; decide +kernel
theorem dev6_eq (c : Dev nD) : (⟨k0_dev6 c, k0_dev6_lt c⟩ : Dev nD) = nb .y c := by revert c; decide +kernel
theorem dev3_eq (c : Dev nD) (h : k0_cond1 c = 1#1) : (⟨k0_dev3 c, k0_dev3_lt c h⟩ : Dev nD) = nb .up c := by revert c; decide +kernel
theorem dev4_eq (c : Dev nD) (h : k0_cond2 c = 1#1) : (⟨k0_dev4 c, k0_dev4_lt c h⟩ : Dev nD) = nb .dn c := by revert c; decide +kernel
theorem dev7_eq (c : Dev nD) (h : k0_cond5 c = 1#1) : (⟨k0_dev7 c, k0_dev7_lt c h⟩ : Dev nD) = nb .up c := by revert c; decide +kernel
theorem dev8_eq (c : Dev nD) (h : k0_cond6 c = 1#1) : (⟨k0_dev8 c, k0_dev8_lt c h⟩ : Dev nD) = nb .dn c := by revert c; decide +kernel
theorem cond1_iff (c : Dev nD) : k0_cond1 c = 1#1 ↔ has .up c = true := by revert c; decide +kernel
theorem cond2_iff (c : Dev nD) : k0_cond2 c = 1#1 ↔ has .dn c = true := by revert c; decide +kernel
theorem cond5_iff (c : Dev nD) : k0_cond5 c = 1#1 ↔ has .up c = true := by revert c; decide +kernel
theorem cond6_iff (c : Dev nD) : k0_cond6 c = 1#1 ↔ has .dn c = true := by revert c; decide +kernel

/-! ## Buffers and semaphores by direction -/

/-- The shape of a face. -/
abbrev fs : Dir → Shape
  | .x => S1x16x16
  | .y => S16x1x16
  | .up => S16x16x1
  | .dn => S16x16x1

/-- The buffer a face is sent from. -/
abbrev src : (d : Dir) → Memref sig .tc .vmem (fs d) .f32
  | .x => Memref.whole cc0_scratch0
  | .y => Memref.whole cc0_scratch1
  | .up => Memref.whole cc0_scratch3
  | .dn => Memref.whole cc0_scratch2

/-- The slot a face sent by device `s` lands in: across `x` and `y` the slot is the sender's coordinate, a face going up
    lands in slot 0 and one going down in slot 1. -/
abbrev dst : (d : Dir) → Dev nD → Memref sig .tc .vmem (fs d) .f32
  | .x, s => ((Memref.whole cc0_scratch4).slice (Rect.unit (s := S2x1x16x16) (k0_off3 s) S1x1x16x16.size (k0_off3_inb s)) (fun _ => rfl)).squeeze S1x16x16 squeezes_S1x1x16x16_S1x16x16
  | .y, s => ((Memref.whole cc0_scratch5).slice (Rect.unit (s := S2x16x1x16) (k0_off4 s) S1x16x1x16.size (k0_off4_inb s)) (fun _ => rfl)).squeeze S16x1x16 squeezes_S1x16x1x16_S16x1x16
  | .up, _ => ((Memref.whole cc0_scratch6).slice (Rect.unit (s := S2x16x16x1) ![0, 0, 0, 0] S1x16x16x1.size inb_S2x16x16x1_S1x16x16x1_0_0_0_0) (fun _ => rfl)).squeeze S16x16x1 squeezes_S1x16x16x1_S16x16x1
  | .dn, _ => ((Memref.whole cc0_scratch6).slice (Rect.unit (s := S2x16x16x1) ![1, 0, 0, 0] S1x16x16x1.size inb_S2x16x16x1_S1x16x16x1_1_0_0_0) (fun _ => rfl)).squeeze S16x16x1 squeezes_S1x16x16x1_S16x16x1

/-- The runtime's barrier semaphore, and the send and receive semaphores of each direction. -/
abbrev barS : Sem sig := (SemArray.scalar (sig.barrier 0 rfl) : Sems sig S_).sem
abbrev sendS : Dir → DmaSem sig
  | .x => ((cc0_scratch7.slice (Rect.unit (s := S4) ![0] S1.size inb_S4_S1_0)).squeeze S_ squeezes_S1_S_).sem
  | .y => ((cc0_scratch7.slice (Rect.unit (s := S4) ![1] S1.size inb_S4_S1_1)).squeeze S_ squeezes_S1_S_).sem
  | .up => ((cc0_scratch7.slice (Rect.unit (s := S4) ![2] S1.size inb_S4_S1_2)).squeeze S_ squeezes_S1_S_).sem
  | .dn => ((cc0_scratch7.slice (Rect.unit (s := S4) ![3] S1.size inb_S4_S1_3)).squeeze S_ squeezes_S1_S_).sem
abbrev recvS : Dir → DmaSem sig
  | .x => ((cc0_scratch8.slice (Rect.unit (s := S4) ![0] S1.size inb_S4_S1_0)).squeeze S_ squeezes_S1_S_).sem
  | .y => ((cc0_scratch8.slice (Rect.unit (s := S4) ![1] S1.size inb_S4_S1_1)).squeeze S_ squeezes_S1_S_).sem
  | .up => ((cc0_scratch8.slice (Rect.unit (s := S4) ![2] S1.size inb_S4_S1_2)).squeeze S_ squeezes_S1_S_).sem
  | .dn => ((cc0_scratch8.slice (Rect.unit (s := S4) ![3] S1.size inb_S4_S1_3)).squeeze S_ squeezes_S1_S_).sem

theorem sendS_inj : ∀ d e : Dir, sendS d = sendS e ↔ d = e := by decide +kernel
theorem recvS_inj : ∀ d e : Dir, recvS d = recvS e ↔ d = e := by decide +kernel
theorem sendS_ne_recvS : ∀ d e : Dir, sendS d ≠ recvS e := by decide +kernel

/-- The semaphores as the protocol's cells. -/
abbrev barC (c : Dev nD) : GSem nD τ sig := ((c : Thread nD τ), .reg barS)
abbrev sendC (d : Dir) (c : Dev nD) : GSem nD τ sig := ((c : Thread nD τ), .dma (sendS d))
abbrev recvC (d : Dir) (c : Dev nD) : GSem nD τ sig := ((c : Thread nD τ), .dma (recvS d))

/-- What a landed face credits. -/
def N (d : Dir) : ℕ := (dst d 0).view.dmaCredit
theorem N_pos (d : Dir) : 0 < N d := View.dmaCredit_pos _ (by cases d <;> decide)
theorem credit_dst (d : Dir) (s : Dev nD) : (dst d s).view.dmaCredit = N d := by cases d <;> rfl

variable {F : FTy → Type} [FloatOps F]

/-! ## The resource algebra, contents -/

abbrev UB : Type := URounds (GSem nD τ sig) Dir
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The block of `u` a device computes on. -/
def ublk (c : Dev nD) : (cc0_stg0_0 : Ref sig .tc).ty.Contents (Elt F) := iblk m c (0 : Fin 2) t0_0

/-- The face a device sends in a direction, as the kernel stores it. -/
def face : (d : Dir) → Dev nD → (fs d).Idx → Elt F .f32
  | .x, c => k0_pay2 ((Memref.whole cc0_stg0_0 : Memref sig .tc .vmem S16x16x16 .f32).view.readAt (Elt F) (Rect.unit (s := S16x16x16) (k0_off1 c) S1x16x16.size (k0_off1_inb c)).toLoadRect (ublk m c))
  | .y, c => k0_pay3 ((Memref.whole cc0_stg0_0 : Memref sig .tc .vmem S16x16x16 .f32).view.readAt (Elt F) (Rect.unit (s := S16x16x16) (k0_off2 c) S16x1x16.size (k0_off2_inb c)).toLoadRect (ublk m c))
  | .up, c => k0_pay4 ((Memref.whole cc0_stg0_0 : Memref sig .tc .vmem S16x16x16 .f32).view.readAt (Elt F) (Rect.unit (s := S16x16x16) ![0, 0, 15] S16x16x1.size inb_S16x16x16_S16x16x1_0_0_15).toLoadRect (ublk m c))
  | .dn, c => k0_pay5 ((Memref.whole cc0_stg0_0 : Memref sig .tc .vmem S16x16x16 .f32).view.readAt (Elt F) (Rect.unit (s := S16x16x16) ![0, 0, 0] S16x16x1.size inb_S16x16x16_S16x16x1_0_0_0).toLoadRect (ublk m c))

/-- The landing slot of direction `d` for sender `s`, held on device `c` at contents `f`. -/
def slotPts (d : Dir) (c s : Dev nD) (f : Buf (Elt F) ((dst d s).view.loc (c : Thread nD τ))) : sProp 𝕄 :=
  (dst d s).view.loc (c : Thread nD τ) ↦[(dst d s).view.set]{fullShare} f
/-- The same at some contents. -/
def slotAny (d : Dir) (c s : Dev nD) : sProp 𝕄 := iprop(∃ f, slotPts d c s f)

/-! ## The schedule -/

/-- What a neighbour's signal hands over: its landing slot, and that its receive semaphore is ready. -/
def barPay (d : Dir) (c : Dev nD) : sProp 𝕄 := iprop(slotAny d (nb d c) c ∗ reached ER (recvC d (nb d c)) 0)
/-- What the arrival of a face hands over: the slot holding the sender's face. -/
def landPay (d : Dir) (c : Dev nD) : sProp 𝕄 := owns (c : Thread nD τ) (dst d (nb (opp d) c)) fullShare (face m d (nb (opp d) c))
/-- What the departure of a face hands back: the buffer it was sent from. -/
def srcPay (d : Dir) (c : Dev nD) : sProp 𝕄 := owns (c : Thread nD τ) (src d) fullShare (face m d c)

/-- The one round: the barrier of a device has a duty per neighbour, one unit each; a direction's send semaphore is paid if
    the device has that neighbour, its receive semaphore if it has the opposite one. -/
def sched : Rounds.Schedule (GSem nD τ sig) Dir 𝕄 where
  duties g r := Finset.univ.filter fun d => r = 0 ∧ g.1.2 = .tc ∧
    ((g.2 = .reg barS ∧ has d g.1.1 = true) ∨ (g.2 = .dma (sendS d) ∧ has d g.1.1 = true) ∨ (g.2 = .dma (recvS d) ∧ has (opp d) g.1.1 = true))
  unitless _ := False
  amount g _ d := if g.2 = .reg barS then 1 else N d
  payload g _ d :=
    if g.2 = .reg barS then barPay d g.1.1
    else if g.2 = .dma (recvS d) then landPay m d g.1.1
    else if g.2 = .dma (sendS d) then srcPay m d g.1.1
    else iprop(emp)
  amount_pos g _ d _ := by
    split
    · exact Nat.one_pos
    · exact N_pos d

instance sched_payload_storable (g : GSem nD τ sig) (r : ℕ) (d : Dir) :
    BI.Storable (upEmb : UEmb _ 𝕄) ((sched (F := F) m).payload g r d) := by
  show BI.Storable upEmb (if g.2 = .reg barS then barPay d g.1.1 else if g.2 = .dma (recvS d) then landPay m d g.1.1
    else if g.2 = .dma (sendS d) then srcPay m d g.1.1 else iprop(emp))
  unfold barPay landPay srcPay slotAny slotPts
  (repeat' split) <;> infer_instance

section Tables
variable (d : Dir) (c : Dev nD)

theorem send_ne_bar : (SemLoc.dma (sendS d) : SemLoc sig) ≠ .reg barS := fun h => by cases h
theorem recv_ne_bar : (SemLoc.dma (recvS d) : SemLoc sig) ≠ .reg barS := fun h => by cases h
theorem send_ne_recv (e : Dir) : (SemLoc.dma (sendS d) : SemLoc sig) ≠ .dma (recvS e) := fun h => sendS_ne_recvS d e (SemLoc.dma.inj h)

omit [FloatOps F] in
theorem duties_later [FloatOps F] (g : GSem nD τ sig) : ∀ r, 1 ≤ r → (sched (F := F) m).duties g r = ∅ :=
  fun r hr => Finset.filter_eq_empty_iff.mpr fun d _ h => by omega

theorem duties_bar : (sched m).duties (barC c) 0 = Finset.univ.filter fun d => has d c = true := by
  refine Finset.filter_congr fun d _ => ⟨fun ⟨_, _, h⟩ => ?_, fun h => ⟨rfl, rfl, .inl ⟨rfl, h⟩⟩⟩
  rcases h with h | h | h
  · exact h.2
  · exact absurd h.1.symm (send_ne_bar d)
  · exact absurd h.1.symm (recv_ne_bar d)
theorem mem_bar : d ∈ (sched m).duties (barC c) 0 ↔ has d c = true := by rw [duties_bar]; simp
theorem duties_send : (sched m).duties (sendC d c) 0 = if has d c = true then {d} else ∅ := by
  ext e
  have : e ∈ (sched m).duties (sendC d c) 0 ↔ (e = d ∧ has d c = true) := by
    refine (Finset.mem_filter.trans ⟨fun ⟨_, _, _, h⟩ => ?_, fun ⟨h, h'⟩ => ⟨Finset.mem_univ _, rfl, rfl, .inr (.inl ⟨by rw [h], by rw [h]; exact h'⟩)⟩⟩)
    rcases h with h | h | h
    · exact absurd h.1 (send_ne_bar d)
    · have := (sendS_inj d e).mp (SemLoc.dma.inj h.1); subst this; exact ⟨rfl, h.2⟩
    · exact absurd h.1 (send_ne_recv d e)
  rw [this]; split <;> simp_all
theorem duties_recv : (sched m).duties (recvC d c) 0 = if has (opp d) c = true then {d} else ∅ := by
  ext e
  have : e ∈ (sched m).duties (recvC d c) 0 ↔ (e = d ∧ has (opp d) c = true) := by
    refine (Finset.mem_filter.trans ⟨fun ⟨_, _, _, h⟩ => ?_, fun ⟨h, h'⟩ => ⟨Finset.mem_univ _, rfl, rfl, .inr (.inr ⟨by rw [h], by rw [h]; exact h'⟩)⟩⟩)
    rcases h with h | h | h
    · exact absurd h.1 (recv_ne_bar d)
    · exact absurd h.1.symm (send_ne_recv e d)
    · have := (recvS_inj d e).mp (SemLoc.dma.inj h.1); subst this; exact ⟨rfl, h.2⟩
  rw [this]; split <;> simp_all

theorem amount_bar : (sched m).amount (barC c) 0 d = 1 := by dsimp only [sched]; rw [if_pos rfl]
theorem amount_send (e : Dir) : (sched m).amount (sendC e c) 0 d = N d := by dsimp only [sched]; rw [if_neg (send_ne_bar e)]
theorem amount_recv (e : Dir) : (sched m).amount (recvC e c) 0 d = N d := by dsimp only [sched]; rw [if_neg (recv_ne_bar e)]

theorem payload_bar : (sched m).payload (barC c) 0 d = barPay d c := by dsimp only [sched]; rw [if_pos rfl]
theorem payload_send : (sched m).payload (sendC d c) 0 d = srcPay m d c := by
  dsimp only [sched]; rw [if_neg (send_ne_bar d), if_neg (send_ne_recv d d), if_pos rfl]
theorem payload_recv : (sched m).payload (recvC d c) 0 d = landPay m d c := by
  dsimp only [sched]; rw [if_neg (recv_ne_bar d), if_pos rfl]

theorem expect_bar : (sched m).expect (barC c) 0 = deg c := by
  unfold Schedule.expect Schedule.amountOf deg
  rw [duties_bar, Finset.sum_congr rfl fun d _ => amount_bar m d c, Finset.sum_const, smul_eq_mul, Nat.mul_one]
theorem expect_send (h : has d c = true) : (sched m).expect (sendC d c) 0 = N d := by
  unfold Schedule.expect Schedule.amountOf; rw [duties_send, if_pos h, Finset.sum_singleton, amount_send]
theorem expect_recv (h : has (opp d) c = true) : (sched m).expect (recvC d c) 0 = N d := by
  unfold Schedule.expect Schedule.amountOf; rw [duties_recv, if_pos h, Finset.sum_singleton, amount_recv]

/-- What is left to hand over at the one wait of each cell. -/
theorem rest_bar : bigSep ((sched m).duties (barC c) 0 \ ∅) (fun d => (sched m).payload (barC c) 0 d)
    = bigSep (Finset.univ.filter fun d => has d c = true) (fun d => (barPay d c : sProp 𝕄)) := by
  rw [Finset.sdiff_empty, duties_bar]; exact bigSep_congr fun d _ => payload_bar m d c
theorem rest_send (h : has d c = true) : bigSep ((sched m).duties (sendC d c) 0 \ ∅) (fun e => (sched m).payload (sendC d c) 0 e) = srcPay m d c := by
  rw [Finset.sdiff_empty, duties_send, if_pos h, bigSep_singleton, payload_send]
theorem rest_recv (h : has (opp d) c = true) : bigSep ((sched m).duties (recvC d c) 0 \ ∅) (fun e => (sched m).payload (recvC d c) 0 e) = landPay m d c := by
  rw [Finset.sdiff_empty, duties_recv, if_pos h, bigSep_singleton, payload_recv]

end Tables

end Cert.KernelIdeal.Halo

end
-- ==== Proof.StepsIdeal.lean ====
/-
  The single steps of the idealized kernel's protocol, each stated once for a direction: what a device owes, the order of
  waiting, a signal to a neighbour, the wait for the neighbours, a face sent, a face received, a sent face's buffer back.
  A step the program takes under a condition (along `z`, where the box has ends) is stated with its condition: what it uses
  is then held under the same condition (`whn`).
-/
module

public import proofs.«01_k».proof.Proof.HaloIdeal

@[expose] public section

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device owes, and the order of waiting -/

/-- The credit a device owes the receive semaphore of its neighbour in direction `d`. -/
def rOwe (d : Dir) (c : Dev nD) : CellTallies nD τ sig Unit := if has d c = true then tallyAt (recvC d (nb d c)) () (N d) else 0
/-- The unit it owes that neighbour's barrier. -/
def bOwe (d : Dir) (c : Dev nD) : CellTallies nD τ sig Unit := if has d c = true then tallyAt (barC (nb d c)) () 1 else 0
/-- The sends, summed so that the first one of the program comes off first; then the signals likewise. -/
def oDn (c : Dev nD) : CellTallies nD τ sig Unit := 0 + rOwe .dn c
def oUp (c : Dev nD) : CellTallies nD τ sig Unit := oDn c + rOwe .up c
def oY (c : Dev nD) : CellTallies nD τ sig Unit := oUp c + rOwe .y c
def oX (c : Dev nD) : CellTallies nD τ sig Unit := oY c + rOwe .x c
def O₀ (c : Dev nD) : CellTallies nD τ sig Unit := oX c + bOwe .dn c + bOwe .up c + bOwe .y c + bOwe .x c

def L (g : GSem nD τ sig) : Finset Unit := if g.1.2 = .tc then {()} else ∅
/-- Receive semaphores above the barrier, all others below both. -/
def lv (g : GSem nD τ sig) (_ : Unit) : ℕ := if g.2 = .reg barS then 1 else if ∃ d, g.2 = .dma (recvS d) then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barC c) u = 1 := if_pos rfl
theorem lv_recv (d : Dir) (c : Dev nD) (u : Unit) : lv (recvC d c) u = 2 := (if_neg (recv_ne_bar d)).trans (if_pos ⟨d, rfl⟩)

theorem rOwe_pos {d : Dir} {c : Dev nD} {g : GSem nD τ sig} {u : Unit} (h : 0 < rOwe d c g u) : g = recvC d (nb d c) := by
  by_contra hn
  unfold rOwe at h
  split at h
  · rw [tallyAt_apply, if_neg fun h' => hn h'.1] at h; exact Nat.lt_irrefl 0 h
  · exact Nat.lt_irrefl 0 h
theorem bOwe_pos {d : Dir} {c : Dev nD} {g : GSem nD τ sig} {u : Unit} (h : 0 < bOwe d c g u) : g = barC (nb d c) := by
  by_contra hn
  unfold bOwe at h
  split at h
  · rw [tallyAt_apply, if_neg fun h' => hn h'.1] at h; exact Nat.lt_irrefl 0 h
  · exact Nat.lt_irrefl 0 h

theorem oX_pos {c : Dev nD} {g : GSem nD τ sig} {u : Unit} (h : 0 < oX c g u) : ∃ d, g = recvC d (nb d c) := by
  unfold oX oY oUp oDn at h
  simp only [Pi.add_apply, Finsupp.add_apply, Pi.zero_apply, Finsupp.coe_zero, Nat.zero_add] at h
  rcases (by omega : 0 < rOwe .dn c g u ∨ 0 < rOwe .up c g u ∨ 0 < rOwe .y c g u ∨ 0 < rOwe .x c g u) with h | h | h | h <;> exact ⟨_, rOwe_pos h⟩
theorem O₀_pos {c : Dev nD} {g : GSem nD τ sig} {u : Unit} (h : 0 < O₀ c g u) : (∃ d, g = recvC d (nb d c)) ∨ ∃ d, g = barC (nb d c) := by
  unfold O₀ at h
  simp only [Pi.add_apply, Finsupp.add_apply] at h
  rcases (by omega : 0 < oX c g u ∨ 0 < bOwe .dn c g u ∨ 0 < bOwe .up c g u ∨ 0 < bOwe .y c g u ∨ 0 < bOwe .x c g u) with h | h | h | h | h
  · exact .inl (oX_pos h)
  all_goals exact .inr ⟨_, bOwe_pos h⟩

/-- A semaphore may be waited on while everything owed is above it. -/
theorem mayWait_below (c : Dev nD) (sm : SemLoc sig) (O : CellTallies nD τ sig Unit) (n : ℕ) (hn : lv ((c : Thread nD τ), sm) () ≤ n)
    (hO : ∀ g u, 0 < O g u → (∃ d e, g = recvC d e ∧ n < 2) ∨ (∃ e, g = barC e ∧ n < 1)) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by rcases hO g u hg with ⟨d, e, rfl, -⟩ | ⟨e, rfl, -⟩ <;> exact Finset.mem_singleton_self _)
    (fun p hp => by rw [Finset.mem_singleton.mp hp]; exact hn)
    (fun g u hg => by
      rcases hO g u hg with ⟨d, e, rfl, h⟩ | ⟨e, rfl, h⟩
      · rw [lv_recv]; exact h
      · rw [lv_bar]; exact h)

theorem mayWait_stage (c : Dev nD) (q : DmaSem sig) (hq : ∀ d, q ≠ recvS d) (O : CellTallies nD τ sig Unit) (hO : O = O₀ c ∨ O = 0) :
    (levAts L lv : sProp 𝕄) ⊢ MayWait (c : Thread nD τ) (.dma q) () O := by
  rcases hO with rfl | rfl
  · refine mayWait_below c _ _ 0 (by unfold lv; rw [if_neg (fun h => by cases h), if_neg (fun ⟨d, h⟩ => hq d (SemLoc.dma.inj h))]) fun g u hg => ?_
    rcases O₀_pos hg with ⟨d, rfl⟩ | ⟨d, rfl⟩
    · exact .inl ⟨d, _, rfl, by decide⟩
    · exact .inr ⟨_, rfl, by decide⟩
  · rw [MayWait_zero]; iintro -; iempintro
/-- At its barrier a device owes the faces only. -/
theorem mayWait_bar (c : Dev nD) : (levAts L lv : sProp 𝕄) ⊢ MayWait (c : Thread nD τ) (.reg barS) () (oX c) :=
  mayWait_below c _ _ 1 (le_of_eq (lv_bar c ())) fun g u hg => by obtain ⟨d, rfl⟩ := oX_pos hg; exact .inl ⟨d, _, rfl, by decide⟩

/-! ## Resources held under a condition -/

/-- `P` if `b`, nothing otherwise. -/
def whn (b : Bool) (P : sProp 𝕄) : sProp 𝕄 := if b = true then P else iprop(emp)
theorem whn_pos {b : Bool} (h : b = true) (P : sProp 𝕄) : whn b P = P := if_pos h
theorem whn_neg {b : Bool} (h : b = false) (P : sProp 𝕄) : whn b P = iprop(emp) := if_neg (by rw [h]; decide)
theorem whn_split (b : Bool) (P : sProp 𝕄) : P ⊢ iprop(whn b P ∗ whn (!b) P) := by
  cases b
  · rw [whn_neg rfl, whn_pos (b := !false) rfl]; iintro H; isplitr; · iempintro
    iexact H
  · rw [whn_pos rfl, whn_neg (b := !true) rfl]; iintro H; isplitl [H]; · iexact H
    iempintro
theorem whn_join (b : Bool) (P : sProp 𝕄) : iprop(whn b P ∗ whn (!b) P) ⊢ P := by
  cases b
  · rw [whn_neg rfl, whn_pos (b := !false) rfl]; iintro ⟨-, H⟩; iexact H
  · rw [whn_pos rfl, whn_neg (b := !true) rfl]; iintro ⟨H, -⟩; iexact H

/-! ## The protocol's records -/

/-- A device's cells: its barrier, and per direction its send (`false`) and receive (`true`) semaphore. -/
abbrev Cell : Type := Option (Bool × Dir)
abbrev csem : Cell → SemLoc sig
  | none => .reg barS
  | some (false, d) => .dma (sendS d)
  | some (true, d) => .dma (recvS d)
abbrev kcell (ck : Dev nD × Cell) : GSem nD τ sig := ((ck.1 : Thread nD τ), csem ck.2)

/-- Every cell's invariant under the names `K`, and that every cell is at its round. -/
def records (K : Dev nD × Cell → ℕ) : sProp 𝕄 :=
  iprop((bigSep Finset.univ fun ck : Dev nD × Cell => cellInv ER (sched m) (K ck) (kcell ck))
    ∗ bigSep Finset.univ fun ck : Dev nD × Cell => reached ER (kcell ck) 0)

instance records_persistent (K : Dev nD × Cell → ℕ) : BI.Persistent (records m K) := by unfold records; infer_instance

theorem inv_at (K : Dev nD × Cell → ℕ) (ck : Dev nD × Cell) : records m K ⊢ cellInv ER (sched m) (K ck) (kcell ck) := by
  unfold records; exact sep_elim_left.trans (BI.bigSep_elim (Finset.mem_univ ck))
theorem reached_at (K : Dev nD × Cell → ℕ) (ck : Dev nD × Cell) : records m K ⊢ reached ER (kcell ck) 0 := by
  unfold records; exact sep_elim_right.trans (BI.bigSep_elim (Finset.mem_univ ck))

abbrev 𝒱₀ : Variants := Variants.none

/-- The proof of a program piece run on device `c`. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

theorem wpc_ret (c : Dev nD) {α : Type} {a : α} {Q : α → sProp 𝕄} : Q a ⊢ wpc c (.ret a) Q := by
  unfold wpc; rw [wp_ret]; iintro H; imodintro; iexact H
theorem wpc_bind (c : Dev nD) {α β : Type} (p : Prog (TpuEff nD τ sig (Elt F) Λ₀ .tc) α) (k : α → Prog (TpuEff nD τ sig (Elt F) Λ₀ .tc) β) (Q : β → sProp 𝕄) :
    wpc c (p >>= k) Q = wpc c p fun a => wpc c (k a) Q := wp_bind _ _ _ _ _ _

/-- What is owed, whatever waits came before. -/
def owesE (c : Dev nD) (O : CellTallies nD τ sig Unit) : sProp 𝕄 := iprop(∃ W, owes (c : Thread nD τ) O W)

section Steps
variable (K : Dev nD × Cell → ℕ)

/-! ## Signals -/

/-- Entering the barrier of the neighbour in direction `d`: the landing slot for that neighbour's face goes along. -/
theorem wp_signal_to (c n : Dev nD) (d : Dir) (hn : n = nb d c) (hd : has d c = true) (O : CellTallies nD τ sig Unit) (a : ℤ) (ha : a = ((1 : ℕ) : ℤ))
    {α : Type} {Q : α → sProp 𝕄} {k : PUnit → Prog (TpuEff nD τ sig (Elt F) Λ₀ .tc) α} :
    iprop(records m K ∗ owesE c (O + bOwe d c) ∗ dutyTok ER (barC (nb d c)) 0 (opp d) ∗ slotAny (opp d) c (nb d c))
      ⊢ iprop((owesE c O -∗ wpc c (k ⟨⟩) Q) -∗ wpc c (.op (.semSignal (n : Thread nD τ) barS a) k) Q) := by
  subst hn ha
  unfold owesE bOwe
  rw [if_pos hd]
  iintro ⟨#HR, ⟨%W, HO⟩, Ht, Hs⟩ Hk
  iapply (Rounds.wp_signal 𝒱₀ ER (sched m) (c : Thread nD τ) none (dst := (nb d c : Thread nD τ)) (κ := K (nb d c, none)) (r := 0)
      (d := opp d) ((mem_bar m _ _).mpr (by rw [has_nb]; exact hd)) (amount_bar m (opp d) (nb d c)) () O rfl (W := W)) $$ [HO Ht Hs]
  · isplitr; · iapply (inv_at m K (nb d c, none)); iexact HR
    isplitl [HO]; · iexact HO
    isplitl [Ht]; · iexact Ht
    isplitl [Hs]
    · rw [payload_bar]; unfold barPay; rw [nb_opp]
      isplitl [Hs]; · iexact Hs
      iapply (reached_at m K (c, some (true, opp d))); iexact HR
    · iapply (reached_at m K (nb d c, none)); iexact HR
  iintro HO
  iapply Hk
  iexists W; iexact HO

/-- The same under the program's condition for it. -/
theorem wp_signal_if (c : Dev nD) (d : Dir) (p : Prop) [Decidable p] (hp : p ↔ has d c = true) (dv : p → Dev nD) (hdv : ∀ h, dv h = nb d c)
    (O : CellTallies nD τ sig Unit) {α : Type} {Q : α → sProp 𝕄} {P : Prog (TpuEff nD τ sig (Elt F) Λ₀ .tc) α} :
    iprop(records m K ∗ owesE c (O + bOwe d c) ∗ dutyTok ER (barC (nb d c)) 0 (opp d) ∗ whn (has d c) (slotAny (opp d) c (nb d c)))
      ⊢ iprop((owesE c O -∗ wpc c P Q) -∗ wpc c (if h : p then (semSignalWord (dv h) barS 1#32 >>= fun _ => P) else P) Q) := by
  by_cases h : p
  · rw [dif_pos h, whn_pos (hp.mp h)]
    simp only [semSignalWord, Prog.bind_op, Prog.bind_ret]
    iintro H Hk
    iapply (wp_signal_to m K c _ d (hdv h) (hp.mp h) O _ (by decide)) $$ H
    iintro HO
    iapply Hk; iexact HO
  · rw [dif_neg h]
    have hf : has d c = false := by cases hb : has d c; · rfl
                                    · exact absurd (hp.mpr hb) h
    rw [show bOwe d c = 0 from if_neg (by rw [hf]; decide), add_zero]
    iintro ⟨-, HO, -, -⟩ Hk
    iapply Hk; iexact HO

/-! ## The barrier -/

/-- Before and after the wait for the neighbours. -/
def barTodo (c : Dev nD) : sProp 𝕄 := iprop(owesE c (oX c) ∗ cred (tallyAt (barC c) () (deg c)) ∗ atPos ER (barC c) 0 ∅ 0)
def barDone (c : Dev nD) : sProp 𝕄 :=
  iprop(owesE c (oX c) ∗ atPos ER (barC c) 1 ∅ 0 ∗ bigSep (Finset.univ.filter fun d => has d c = true) fun d => barPay d c)

theorem wp_bar_if (c : Dev nD) (p : Prop) [Decidable p] (w : BitVec 32) (hw : p → w.toInt = ((deg c : ℕ) : ℤ))
    {α : Type} {Q : α → sProp 𝕄} {P : Prog (TpuEff nD τ sig (Elt F) Λ₀ .tc) α} :
    iprop(records m K ∗ levAts L lv ∗ barTodo c)
      ⊢ iprop(((if p then barDone c else barTodo c) -∗ wpc c P Q) -∗ wpc c (if h : p then (semWaitWord barS w >>= fun _ => P) else P) Q) := by
  by_cases h : p
  · rw [dif_pos h, if_pos h]
    simp only [semWaitWord, Prog.bind_op, Prog.bind_ret, hw h]
    unfold barTodo barDone owesE
    iintro ⟨#HR, #HL, ⟨%W, HO⟩, Hc, Ha⟩ Hk
    iapply (Rounds.wp_wait_rest_token 𝒱₀ ER (sched m) (c : Thread nD τ) none (κ := K (c, none))
      (wpE_semWait_eq 𝒱₀ (c : Thread nD τ) none Set.univ) (Set.mem_univ _) () (O := oX c) (W := W) (R := 0) (m := 0) (T := ∅)
      (by rw [Nat.zero_add, expect_bar])) $$ [Hc HO Ha]
    · isplitr; · iapply (inv_at m K (c, none)); iexact HR
      isplitl [Hc]; · iexact Hc
      isplitl [HO]; · iexact HO
      isplitr; · iapply (mayWait_bar c); iexact HL
      iexact Ha
    iintro ⟨HO, Ha, -, Hp⟩
    ihave Hp := (Entails.of_eq (rest_bar m c)) $$ Hp
    iapply Hk
    isplitl [HO]; · iexists _; iexact HO
    isplitl [Ha]; · iexact Ha
    iexact Hp
  · rw [dif_neg h, if_neg h]
    iintro ⟨-, -, H⟩ Hk
    iapply Hk; iexact H

/-! ## Sending and receiving -/

/-- A face sent in direction `d`: from the buffer holding it to the neighbour's landing slot. -/
theorem wp_send_to (c n : Dev nD) (d : Dir) (hn : n = nb d c) (hd : has d c = true)
    {hsc : (dst d c).view.ref.isScScratch = false} {hsrc : (src d).view.WordExact} {hdst : (dst d c).view.WordExact}
    {hsem : DmaTarget.Typed .vmem (.dma (recvS d)) (.remote (Dev.tc n : Thread nD τ) (dst d c) (.dma (sendS d)) hsc)}
    (O : CellTallies nD τ sig Unit) {α : Type} {Q : α → sProp 𝕄} {k : PUnit → Prog (TpuEff nD τ sig (Elt F) Λ₀ .tc) α} :
    iprop(records m K ∗ owesE c (O + rOwe d c) ∗ srcPay m d c ∗ slotAny d (nb d c) c ∗ dutyTok ER (sendC d c) 0 d ∗ dutyTok ER (recvC d (nb d c)) 0 d)
      ⊢ iprop(((owesE c O ∗ cred (tallyAt (sendC d c) () (N d))) -∗ wpc c (k ⟨⟩) Q)
        -∗ wpc c (.op (.enqueueDma (src d) (.remote (Dev.tc n : Thread nD τ) (dst d c) (.dma (sendS d)) hsc) (.dma (recvS d)) hsrc hdst hsem) k) Q) := by
  subst hn
  unfold owesE rOwe srcPay slotAny slotPts owns
  rw [if_pos hd]
  iintro ⟨#HR, ⟨%W, HO⟩, ⟨%f, %hf, Hs⟩, ⟨%g, Hg⟩, Ht1, Ht2⟩ Hk
  iapply (Rounds.wp_send_pointsTo 𝒱₀ ER (sched m) (c : Thread nD τ) none (sem := .dma (recvS d)) (κ₁ := K (c, some (false, d))) (κ₂ := K (nb d c, some (true, d)))
    (r₁ := 0) (r₂ := 0) (d₁ := d) (d₂ := d) (fs := f) (fd := g)
    (by rw [duties_send, if_pos hd]; exact Finset.mem_singleton_self _)
    (by rw [duties_recv, if_pos (by rw [has_nb]; exact hd)]; exact Finset.mem_singleton_self _)
    () () (N d) (credit_dst d c) (amount_send m d c d) (amount_recv m d (nb d c) d) O rfl (W := W)
    (by rw [payload_send]; unfold srcPay owns
        iintro H; iexists f; isplitr; · ipureintro; exact hf
        iexact H)
    (by rw [payload_recv]; unfold landPay owns; rw [nb_opp]
        iintro H; iexists _; isplitr; swap; · iexact H
        ipureintro; rw [View.read_write_univ]; exact hf)) $$ [HO Hs Hg Ht1 Ht2]
  · isplitr; · iapply (inv_at m K (c, some (false, d))); iexact HR
    isplitr; · iapply (inv_at m K (nb d c, some (true, d))); iexact HR
    isplitl [Hs]; · iexact Hs
    isplitl [Hg]; · iexact Hg
    isplitl [HO]; · iexact HO
    isplitl [Ht1]; · iexact Ht1
    isplitr; · iapply (reached_at m K (c, some (false, d))); iexact HR
    isplitl [Ht2]; · iexact Ht2
    iapply (reached_at m K (nb d c, some (true, d))); iexact HR
  iintro ⟨Hc, HO⟩
  iapply Hk
  isplitl [HO]; · iexists W; iexact HO
  iexact Hc

/-- A step under the program's condition for it. -/
theorem wp_if (c : Dev nD) (b : Bool) (p : Prop) [Decidable p] (hp : p ↔ b = true) (A B : sProp 𝕄) {α : Type} {Q : α → sProp 𝕄}
    {X : p → Prog (TpuEff nD τ sig (Elt F) Λ₀ .tc) PUnit} {P : Prog (TpuEff nD τ sig (Elt F) Λ₀ .tc) α}
    (ht : ∀ h : p, b = true → A ⊢ iprop((B -∗ wpc c P Q) -∗ wpc c (X h >>= fun _ => P) Q)) (hf : b = false → A ⊢ B) :
    A ⊢ iprop((B -∗ wpc c P Q) -∗ wpc c (if h : p then (X h >>= fun _ => P) else P) Q) := by
  by_cases h : p
  · rw [dif_pos h]; exact ht h (hp.mp h)
  · rw [dif_neg h]
    have hb : b = false := by cases hb : b; · rfl
                              · exact absurd (hp.mpr hb) h
    iintro HA Hk
    iapply Hk
    iapply (hf hb); iexact HA

/-- Before and after a face is sent in direction `d`, if there is a neighbour there. -/
def sendTodo (d : Dir) (c : Dev nD) (O : CellTallies nD τ sig Unit) : sProp 𝕄 :=
  iprop(records m K ∗ owesE c (O + rOwe d c) ∗ whn (has d c) (srcPay m d c) ∗ whn (has d c) (slotAny d (nb d c) c)
    ∗ dutyTok ER (sendC d c) 0 d ∗ dutyTok ER (recvC d (nb d c)) 0 d)
def sendDone (d : Dir) (c : Dev nD) (O : CellTallies nD τ sig Unit) : sProp 𝕄 := iprop(owesE c O ∗ whn (has d c) (cred (tallyAt (sendC d c) () (N d))))

theorem send_off (d : Dir) (c : Dev nD) (O : CellTallies nD τ sig Unit) (hf : has d c = false) : sendTodo m K d c O ⊢ sendDone d c O := by
  unfold sendTodo sendDone
  rw [show rOwe d c = 0 from if_neg (by rw [hf]; decide), add_zero]
  simp only [whn_neg hf]
  iintro ⟨-, HO, -⟩
  isplitl [HO]; · iexact HO
  iempintro

/-- A semaphore's round is over: not started if it was not paid. -/
def rnd (b : Bool) : ℕ := if b = true then 1 else 0

/-- The wait for the face arriving in direction `d`, with nothing owed any more. -/
theorem wp_recv (c : Dev nD) (d : Dir) (hd : has (opp d) c = true) {sp sp' : Space} {s : Shape} {e : EltTy}
    {a : Memref sig .tc sp s e} {b : Memref sig .tc sp' s e}
    {ha : a.view.WordExact} {hb : b.view.WordExact} (hN : b.view.dmaCredit = N d)
    {α : Type} {Q : α → sProp 𝕄} {k : PUnit → Prog (TpuEff nD τ sig (Elt F) Λ₀ .tc) α} :
    iprop(records m K ∗ owesE c 0 ∗ cred (tallyAt (recvC d c) () (N d)) ∗ atPos ER (recvC d c) 0 ∅ 0)
      ⊢ iprop(((owesE c 0 ∗ atPos ER (recvC d c) 1 ∅ 0 ∗ landPay m d c) -∗ wpc c (k ⟨⟩) Q)
        -∗ wpc c (.op (.waitDma2 (recvS d) a b ha hb) k) Q) := by
  unfold owesE
  iintro ⟨#HR, ⟨%W, HO⟩, Hc, Ha⟩ Hk
  iapply (Rounds.wp_wait_rest_token 𝒱₀ ER (sched m) (c : Thread nD τ) none (κ := K (c, some (true, d)))
      (wpE_waitDma2_eq 𝒱₀ (c : Thread nD τ) none Set.univ) (Set.mem_univ _) () (O := 0) (W := W) (R := 0) (m := 0) (T := ∅)
      (by rw [Nat.zero_add, expect_recv m d c hd, hN])) $$ [Hc HO Ha]
  · isplitr; · iapply (inv_at m K (c, some (true, d))); iexact HR
    isplitl [Hc]; · rw [hN]; iexact Hc
    isplitl [HO]; · iexact HO
    isplitr; · rw [MayWait_zero]; iempintro
    iexact Ha
  iintro ⟨HO, Ha, -, Hp⟩
  ihave Hp := (Entails.of_eq (rest_recv m d c hd)) $$ Hp
  iapply Hk
  isplitl [HO]; · iexists _; iexact HO
  isplitl [Ha]; · iexact Ha
  iexact Hp

theorem wp_recv_if (c : Dev nD) (d : Dir) (p : Prop) [Decidable p] (hp : p ↔ has (opp d) c = true) {sp sp' : Space} {s : Shape} {e : EltTy}
    {a : Memref sig .tc sp s e} {b : Memref sig .tc sp' s e} {ha : a.view.WordExact} {hb : b.view.WordExact} (hN : b.view.dmaCredit = N d)
    {α : Type} {Q : α → sProp 𝕄} {P : Prog (TpuEff nD τ sig (Elt F) Λ₀ .tc) α} :
    iprop(records m K ∗ owesE c 0 ∗ whn (has (opp d) c) (cred (tallyAt (recvC d c) () (N d))) ∗ atPos ER (recvC d c) 0 ∅ 0)
      ⊢ iprop(((owesE c 0 ∗ atPos ER (recvC d c) (rnd (has (opp d) c)) ∅ 0 ∗ whn (has (opp d) c) (landPay m d c)) -∗ wpc c P Q)
        -∗ wpc c (if h : p then (Prog.lift (.waitDma2 (recvS d) a b ha hb) >>= fun _ => P) else P) Q) := by
  by_cases h : p
  · rw [dif_pos h]; simp only [whn_pos (hp.mp h), rnd, if_pos (hp.mp h)]
    simp only [Prog.lift, Prog.bind_op, Prog.bind_ret]
    iintro H Hk
    iapply (wp_recv m K c d (hp.mp h) hN) $$ H
    iintro H
    iapply Hk; iexact H
  · rw [dif_neg h]
    have hf : has (opp d) c = false := by cases hb : has (opp d) c; · rfl
                                          · exact absurd (hp.mpr hb) h
    simp only [whn_neg hf, rnd, hf]
    iintro ⟨-, HO, -, Ha⟩ Hk
    iapply Hk
    isplitl [HO]; · iexact HO
    isplitl [Ha]; · iexact Ha
    iempintro

/-- The wait for the face sent in direction `d` to have left: its buffer is the device's again. -/
theorem wp_sent (c : Dev nD) (d : Dir) (hd : has d c = true) {sp sp' : Space} {s : Shape} {e : EltTy}
    {a : Memref sig .tc sp s e} {b : Memref sig .tc sp' s e}
    {ha : a.view.WordExact} {hb : b.view.WordExact} (hN : b.view.dmaCredit = N d)
    {α : Type} {Q : α → sProp 𝕄} {k : PUnit → Prog (TpuEff nD τ sig (Elt F) Λ₀ .tc) α} :
    iprop(records m K ∗ owesE c 0 ∗ cred (tallyAt (sendC d c) () (N d)) ∗ atPos ER (sendC d c) 0 ∅ 0)
      ⊢ iprop(((owesE c 0 ∗ atPos ER (sendC d c) 1 ∅ 0 ∗ srcPay m d c) -∗ wpc c (k ⟨⟩) Q)
        -∗ wpc c (.op (.waitDma2 (sendS d) a b ha hb) k) Q) := by
  unfold owesE
  iintro ⟨#HR, ⟨%W, HO⟩, Hc, Ha⟩ Hk
  iapply (Rounds.wp_wait_rest_token 𝒱₀ ER (sched m) (c : Thread nD τ) none (κ := K (c, some (false, d)))
      (wpE_waitDma2_eq 𝒱₀ (c : Thread nD τ) none Set.univ) (Set.mem_univ _) () (O := 0) (W := W) (R := 0) (m := 0) (T := ∅)
      (by rw [Nat.zero_add, expect_send m d c hd, hN])) $$ [Hc HO Ha]
  · isplitr; · iapply (inv_at m K (c, some (false, d))); iexact HR
    isplitl [Hc]; · rw [hN]; iexact Hc
    isplitl [HO]; · iexact HO
    isplitr; · rw [MayWait_zero]; iempintro
    iexact Ha
  iintro ⟨HO, Ha, -, Hp⟩
  ihave Hp := (Entails.of_eq (rest_send m d c hd)) $$ Hp
  iapply Hk
  isplitl [HO]; · iexists _; iexact HO
  isplitl [Ha]; · iexact Ha
  iexact Hp

theorem wp_sent_if (c : Dev nD) (d : Dir) (p : Prop) [Decidable p] (hp : p ↔ has d c = true) {sp sp' : Space} {s : Shape} {e : EltTy}
    {a : Memref sig .tc sp s e} {b : Memref sig .tc sp' s e} {ha : a.view.WordExact} {hb : b.view.WordExact} (hN : b.view.dmaCredit = N d)
    {α : Type} {Q : α → sProp 𝕄} {P : Prog (TpuEff nD τ sig (Elt F) Λ₀ .tc) α} :
    iprop(records m K ∗ owesE c 0 ∗ whn (has d c) (cred (tallyAt (sendC d c) () (N d))) ∗ atPos ER (sendC d c) 0 ∅ 0)
      ⊢ iprop(((owesE c 0 ∗ atPos ER (sendC d c) (rnd (has d c)) ∅ 0 ∗ whn (has d c) (srcPay m d c)) -∗ wpc c P Q)
        -∗ wpc c (if h : p then (Prog.lift (.waitDma2 (sendS d) a b ha hb) >>= fun _ => P) else P) Q) := by
  by_cases h : p
  · rw [dif_pos h]; simp only [whn_pos (hp.mp h), rnd, if_pos (hp.mp h)]
    simp only [Prog.lift, Prog.bind_op, Prog.bind_ret]
    iintro H Hk
    iapply (wp_sent m K c d (hp.mp h) hN) $$ H
    iintro H
    iapply Hk; iexact H
  · rw [dif_neg h]
    have hf : has d c = false := by cases hb : has d c; · rfl
                                    · exact absurd (hp.mpr hb) h
    simp only [whn_neg hf, rnd, hf]
    iintro ⟨-, HO, -, Ha⟩ Hk
    iapply Hk
    isplitl [HO]; · iexact HO
    isplitl [Ha]; · iexact Ha
    iempintro

/-! ## Closing the cells -/

theorem duties_from (c : Dev nD) (k : Cell) (b : Bool) (hb : b = false → (sched m).duties (kcell (c, k)) 0 = ∅) :
    ∀ r, rnd b ≤ r → (sched m).duties (kcell (c, k)) r = ∅ := fun r hr => by
  rcases Nat.eq_zero_or_pos r with rfl | h
  · cases b
    · exact hb rfl
    · exact absurd hr (by decide)
  · exact duties_later m _ r h

/-- A cell whose round is over is closed: its counter is at zero and the device's again. -/
theorem close_at (c : Dev nD) (k : Cell) (b : Bool) (hb : b = false → (sched m).duties (kcell (c, k)) 0 = ∅) :
    iprop(records m K ∗ atPos ER (kcell (c, k)) (rnd b) ∅ 0) ⊢ (|={Set.univ}=> semVal (kcell (c, k)) 0 : sProp 𝕄) := by
  iintro ⟨#HR, Ha⟩
  iapply (Rounds.cell_close ER (sched m) (Set.mem_univ (K (c, k))) (fun h => h) (R := rnd b) (duties_from m c k b hb))
  isplitr; · iapply (inv_at m K (c, k)); iexact HR
  iexact Ha

theorem close_recv (c : Dev nD) (d : Dir) :
    iprop(records m K ∗ atPos ER (recvC d c) (rnd (has (opp d) c)) ∅ 0) ⊢ (|={Set.univ}=> semVal (recvC d c) 0 : sProp 𝕄) :=
  close_at m K c (some (true, d)) _ fun h => by show (sched m).duties (recvC d c) 0 = ∅; rw [duties_recv, if_neg (by rw [h]; decide)]
theorem close_send (c : Dev nD) (d : Dir) :
    iprop(records m K ∗ atPos ER (sendC d c) (rnd (has d c)) ∅ 0) ⊢ (|={Set.univ}=> semVal (sendC d c) 0 : sProp 𝕄) :=
  close_at m K c (some (false, d)) _ fun h => by show (sched m).duties (sendC d c) 0 = ∅; rw [duties_send, if_neg (by rw [h]; decide)]
theorem close_bar (c : Dev nD) : iprop(records m K ∗ atPos ER (barC c) 1 ∅ 0) ⊢ (|={Set.univ}=> semVal (barC c) 0 : sProp 𝕄) :=
  close_at m K c none true fun h => by cases h

end Steps

end Cert.KernelIdeal.Halo

end
-- ==== Proof.SlotsIdeal.lean ====
/-
  The landing buffers of the idealized kernel by slot, and the value a device computes.

  Each landing buffer has two slots. Across `x` and `y` a device's own slot stays unused and its neighbour's face lands in
  the other one; along `z` a face from below lands in slot 0 and one from above in slot 1. The program reads both slots of
  each buffer and masks out what did not arrive, so the result does not depend on it (`outV_eq`).
-/
module

public import proofs.«01_k».proof.Proof.StepsIdeal
public import Idealize.ShloMosaic.Lib.Pipeline.Value
public import Idealize.ShloMosaic.Lib.Pointwise.Reshape

@[expose] public section

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The slots -/

abbrev hx0 : Memref sig .tc .vmem S1x16x16 .f32 :=
  ((Memref.whole cc0_scratch4).slice (Rect.unit (s := S2x1x16x16) ![0, 0, 0, 0] S1x1x16x16.size inb_S2x1x16x16_S1x1x16x16_0_0_0_0) (fun _ => rfl)).squeeze S1x16x16 squeezes_S1x1x16x16_S1x16x16
abbrev hx1 : Memref sig .tc .vmem S1x16x16 .f32 :=
  ((Memref.whole cc0_scratch4).slice (Rect.unit (s := S2x1x16x16) ![1, 0, 0, 0] S1x1x16x16.size inb_S2x1x16x16_S1x1x16x16_1_0_0_0) (fun _ => rfl)).squeeze S1x16x16 squeezes_S1x1x16x16_S1x16x16
abbrev hy0 : Memref sig .tc .vmem S16x1x16 .f32 :=
  ((Memref.whole cc0_scratch5).slice (Rect.unit (s := S2x16x1x16) ![0, 0, 0, 0] S1x16x1x16.size inb_S2x16x1x16_S1x16x1x16_0_0_0_0) (fun _ => rfl)).squeeze S16x1x16 squeezes_S1x16x1x16_S16x1x16
abbrev hy1 : Memref sig .tc .vmem S16x1x16 .f32 :=
  ((Memref.whole cc0_scratch5).slice (Rect.unit (s := S2x16x1x16) ![1, 0, 0, 0] S1x16x1x16.size inb_S2x16x1x16_S1x16x1x16_1_0_0_0) (fun _ => rfl)).squeeze S16x1x16 squeezes_S1x16x1x16_S16x1x16
abbrev hz0 : Memref sig .tc .vmem S16x16x1 .f32 :=
  ((Memref.whole cc0_scratch6).slice (Rect.unit (s := S2x16x16x1) ![0, 0, 0, 0] S1x16x16x1.size inb_S2x16x16x1_S1x16x16x1_0_0_0_0) (fun _ => rfl)).squeeze S16x16x1 squeezes_S1x16x16x1_S16x16x1
abbrev hz1 : Memref sig .tc .vmem S16x16x1 .f32 :=
  ((Memref.whole cc0_scratch6).slice (Rect.unit (s := S2x16x16x1) ![1, 0, 0, 0] S1x16x16x1.size inb_S2x16x16x1_S1x16x16x1_1_0_0_0) (fun _ => rfl)).squeeze S16x16x1 squeezes_S1x16x16x1_S16x16x1

/-- Across `x`: which slot a sender's face lands in. -/
theorem dst_x (s : Dev nD) : dst .x s = if s.val / 8 = 0 then hx0 else hx1 := by
  have hs : s.val < 16 := s.isLt
  split
  · rename_i h
    exact congrArg (fun M : Memref sig .tc .vmem S1x1x16x16 .f32 => M.squeeze S1x16x16 squeezes_S1x1x16x16_S1x16x16)
      (Memref.slice_unit_congr (Memref.whole cc0_scratch4) (by rw [k0_off3_eq, h]) _ _ _ _)
  · rename_i h
    exact congrArg (fun M : Memref sig .tc .vmem S1x1x16x16 .f32 => M.squeeze S1x16x16 squeezes_S1x1x16x16_S1x16x16)
      (Memref.slice_unit_congr (Memref.whole cc0_scratch4) (by rw [k0_off3_eq, show s.val / 8 = 1 by omega]) _ _ _ _)
/-- Across `y`. -/
theorem dst_y (s : Dev nD) : dst .y s = if s.val / 4 % 2 = 0 then hy0 else hy1 := by
  split
  · rename_i h
    exact congrArg (fun M : Memref sig .tc .vmem S1x16x1x16 .f32 => M.squeeze S16x1x16 squeezes_S1x16x1x16_S16x1x16)
      (Memref.slice_unit_congr (Memref.whole cc0_scratch5) (by rw [k0_off4_eq, h]) _ _ _ _)
  · rename_i h
    exact congrArg (fun M : Memref sig .tc .vmem S1x16x1x16 .f32 => M.squeeze S16x1x16 squeezes_S1x16x1x16_S16x1x16)
      (Memref.slice_unit_congr (Memref.whole cc0_scratch5) (by rw [k0_off4_eq, show s.val / 4 % 2 = 1 by omega]) _ _ _ _)

theorem nb_x_div (c : Dev nD) : (nb .x c).val / 8 = 1 - c.val / 8 := by
  have hc : c.val < 16 := c.isLt
  show (c.val + 8) % 16 / 8 = _
  omega
theorem nb_y_div (c : Dev nD) : (nb .y c).val / 4 % 2 = 1 - c.val / 4 % 2 := by
  have hc : c.val < 16 := c.isLt
  show (8 * (c.val / 8) + (c.val % 8 + 4) % 8) / 4 % 2 = _
  omega

/-- A slot at some contents. -/
def slotOn (c : Dev nD) {sp : Space} {s : Shape} {e : EltTy} (M : Memref sig .tc sp s e) : sProp 𝕄 := iprop(∃ Y, owns (c : Thread nD τ) M fullShare Y)

theorem slotAny_on (d : Dir) (c s : Dev nD) : (slotAny d c s : sProp 𝕄) ⊢ slotOn c (dst d s) := by
  unfold slotAny slotPts slotOn
  iintro ⟨%f, H⟩
  iexists _
  iapply (owns_intro (c : Thread nD τ) (dst d s) fullShare f); iexact H
theorem slotOn_any (d : Dir) (c s : Dev nD) : slotOn c (dst d s) ⊢ (slotAny d c s : sProp 𝕄) := by
  unfold slotAny slotPts slotOn owns
  iintro ⟨%Y, %f, -, H⟩
  iexists f; iexact H

section Two
variable (c : Dev nD) (b : Ref sig .tc) {s : Shape} (r0 r1 : Rect b.ty.shape) (h0 : ∀ a, r0.stride a = 1) (h1 : ∀ a, r1.stride a = 1)
  (q0 : r0.shape.Squeezes s) (q1 : r1.shape.Squeezes s) (hd : Disjoint r0.set r1.set) (hu : r0.set ∪ r1.set = Finset.univ)
include hd hu

/-- A buffer as its two slots. -/
theorem slots_of_whole :
    (iprop(∃ f : Buf (Elt F) ((c : Thread nD τ).loc b), ((c : Thread nD τ).loc b) ↦{fullShare} f) : sProp 𝕄)
      ⊢ iprop(slotOn c (((Memref.whole b).slice r0 h0).squeeze s q0) ∗ slotOn c (((Memref.whole b).slice r1 h1).squeeze s q1)) := by
  have e0 : (((Memref.whole b).slice r0 h0).squeeze s q0).view.set = r0.set := (View.set_reshape _ _).trans (View.set_slice_whole b r0)
  have e1 : (((Memref.whole b).slice r1 h1).squeeze s q1).view.set = r1.set := (View.set_reshape _ _).trans (View.set_slice_whole b r1)
  iintro ⟨%f, H⟩
  ihave H := (Entails.of_eq (congrArg (fun S => (((c : Thread nD τ).loc b) ↦[S]{fullShare} f : sProp 𝕄)) hu.symm)) $$ H
  ihave H := (pointsTo_union hd).1 $$ H
  icases H with ⟨H0, H1⟩
  unfold slotOn
  isplitl [H0]
  · iexists _; iapply (owns_intro (c : Thread nD τ) (((Memref.whole b).slice r0 h0).squeeze s q0) fullShare f); rw [e0]; iexact H0
  · iexists _; iapply (owns_intro (c : Thread nD τ) (((Memref.whole b).slice r1 h1).squeeze s q1) fullShare f); rw [e1]; iexact H1

/-- The two slots as their buffer. -/
theorem whole_of_slots :
    (iprop(slotOn c (((Memref.whole b).slice r0 h0).squeeze s q0) ∗ slotOn c (((Memref.whole b).slice r1 h1).squeeze s q1)) : sProp 𝕄)
      ⊢ iprop(∃ f : Buf (Elt F) ((c : Thread nD τ).loc b), ((c : Thread nD τ).loc b) ↦{fullShare} f) := by
  have e0 : (((Memref.whole b).slice r0 h0).squeeze s q0).view.set = r0.set := (View.set_reshape _ _).trans (View.set_slice_whole b r0)
  have e1 : (((Memref.whole b).slice r1 h1).squeeze s q1).view.set = r1.set := (View.set_reshape _ _).trans (View.set_slice_whole b r1)
  unfold slotOn owns
  rw [e0, e1]
  iintro ⟨⟨%Y0, %f, -, H0⟩, ⟨%Y1, %g, -, H1⟩⟩
  ihave H := (pointsTo_join (ℓ := (c : Thread nD τ).loc b) (f := f) (g := g) hd) $$ [H0 H1]
  · isplitl [H0] <;> iassumption
  ihave H := (Entails.of_eq (congrArg (fun S => (((c : Thread nD τ).loc b) ↦[S]{fullShare} (r1.set.piecewise g f) : sProp 𝕄)) hu)) $$ H
  iexists _; iexact H
end Two

/-- Slots 0 and 1 of a buffer are disjoint and make it up. -/
theorem slots_disjoint {n : Nat} {sh : Fin (n + 1) → Nat} (size : Fin (n + 1) → Nat) (h0 h1) (hs : size 0 = 1) :
    Disjoint (Rect.unit (s := ⟨n + 1, sh⟩) (Matrix.vecCons 0 fun _ => 0) size h0).set (Rect.unit (s := ⟨n + 1, sh⟩) (Matrix.vecCons 1 fun _ => 0) size h1).set := by
  rw [Finset.disjoint_left]
  intro i hi hj
  have a := Rect.mem_set_unit.mp hi 0
  have b := Rect.mem_set_unit.mp hj 0
  simp only [Matrix.cons_val_zero, hs] at a b
  omega
theorem slots_cover {n : Nat} {sh : Fin (n + 1) → Nat} (size : Fin (n + 1) → Nat) (h0 h1) (h2 : sh 0 = 2) (hs : size 0 = 1) (ht : ∀ a : Fin n, size a.succ = sh a.succ) :
    (Rect.unit (s := ⟨n + 1, sh⟩) (Matrix.vecCons 0 fun _ => 0) size h0).set ∪ (Rect.unit (s := ⟨n + 1, sh⟩) (Matrix.vecCons 1 fun _ => 0) size h1).set = Finset.univ := by
  ext i
  simp only [Finset.mem_union, Finset.mem_univ, iff_true, Rect.mem_set_unit]
  have hi : (i 0).val < 2 := h2 ▸ (i 0).isLt
  rcases (by omega : (i 0).val = 0 ∨ (i 0).val = 1) with h | h
  · refine .inl fun a => ?_
    refine Fin.cases ?_ (fun a => ?_) a
    · simp only [Matrix.cons_val_zero, hs]; omega
    · simp only [Matrix.cons_val_succ, ht]; exact ⟨Nat.zero_le _, by rw [Nat.zero_add]; exact (i a.succ).isLt⟩
  · refine .inr fun a => ?_
    refine Fin.cases ?_ (fun a => ?_) a
    · simp only [Matrix.cons_val_zero, hs]; omega
    · simp only [Matrix.cons_val_succ, ht]; exact ⟨Nat.zero_le _, by rw [Nat.zero_add]; exact (i a.succ).isLt⟩

/-- A buffer of device `c` at some contents. -/
def bufAny (c : Dev nD) (b : Ref sig .tc) : sProp 𝕄 := iprop(∃ f : Buf (Elt F) ((c : Thread nD τ).loc b), ((c : Thread nD τ).loc b) ↦{fullShare} f)

theorem vec0 : (![0, 0, 0, 0] : Fin 4 → Nat) = Matrix.vecCons 0 fun _ => 0 := by decide
theorem vec1 : (![1, 0, 0, 0] : Fin 4 → Nat) = Matrix.vecCons 1 fun _ => 0 := by decide

theorem hx_split (c : Dev nD) : (bufAny c cc0_scratch4 : sProp 𝕄) ⊢ iprop(slotOn c hx0 ∗ slotOn c hx1) :=
  slots_of_whole c cc0_scratch4 _ _ _ _ _ _ (by simp only [vec0, vec1]; exact slots_disjoint _ _ _ rfl) (by simp only [vec0, vec1]; exact slots_cover _ _ _ rfl rfl (by decide))
theorem hx_join (c : Dev nD) : iprop(slotOn c hx0 ∗ slotOn c hx1) ⊢ (bufAny c cc0_scratch4 : sProp 𝕄) :=
  whole_of_slots c cc0_scratch4 _ _ _ _ _ _ (by simp only [vec0, vec1]; exact slots_disjoint _ _ _ rfl) (by simp only [vec0, vec1]; exact slots_cover _ _ _ rfl rfl (by decide))
theorem hy_split (c : Dev nD) : (bufAny c cc0_scratch5 : sProp 𝕄) ⊢ iprop(slotOn c hy0 ∗ slotOn c hy1) :=
  slots_of_whole c cc0_scratch5 _ _ _ _ _ _ (by simp only [vec0, vec1]; exact slots_disjoint _ _ _ rfl) (by simp only [vec0, vec1]; exact slots_cover _ _ _ rfl rfl (by decide))
theorem hy_join (c : Dev nD) : iprop(slotOn c hy0 ∗ slotOn c hy1) ⊢ (bufAny c cc0_scratch5 : sProp 𝕄) :=
  whole_of_slots c cc0_scratch5 _ _ _ _ _ _ (by simp only [vec0, vec1]; exact slots_disjoint _ _ _ rfl) (by simp only [vec0, vec1]; exact slots_cover _ _ _ rfl rfl (by decide))
theorem hz_split (c : Dev nD) : (bufAny c cc0_scratch6 : sProp 𝕄) ⊢ iprop(slotOn c hz0 ∗ slotOn c hz1) :=
  slots_of_whole c cc0_scratch6 _ _ _ _ _ _ (by simp only [vec0, vec1]; exact slots_disjoint _ _ _ rfl) (by simp only [vec0, vec1]; exact slots_cover _ _ _ rfl rfl (by decide))
theorem hz_join (c : Dev nD) : iprop(slotOn c hz0 ∗ slotOn c hz1) ⊢ (bufAny c cc0_scratch6 : sProp 𝕄) :=
  whole_of_slots c cc0_scratch6 _ _ _ _ _ _ (by simp only [vec0, vec1]; exact slots_disjoint _ _ _ rfl) (by simp only [vec0, vec1]; exact slots_cover _ _ _ rfl rfl (by decide))

/-- The `x` buffer before the exchange: a device's own slot, and the slot its neighbour's face lands in. -/
theorem x_give (c : Dev nD) : (bufAny c cc0_scratch4 : sProp 𝕄) ⊢ iprop(slotAny .x c c ∗ slotAny .x c (nb .x c)) := by
  refine (hx_split c).trans ?_
  refine BIBase.Entails.trans ?_ (BIClass.sep_mono (slotOn_any .x c c) (slotOn_any .x c (nb .x c)))
  have hc : c.val < 16 := c.isLt
  by_cases h : c.val / 8 = 0
  · rw [dst_x c, if_pos h, dst_x (nb .x c), if_neg (by rw [nb_x_div]; omega)]
  · rw [dst_x c, if_neg h, dst_x (nb .x c), if_pos (by rw [nb_x_div]; omega)]; exact sep_comm.1
theorem y_give (c : Dev nD) : (bufAny c cc0_scratch5 : sProp 𝕄) ⊢ iprop(slotAny .y c c ∗ slotAny .y c (nb .y c)) := by
  refine (hy_split c).trans ?_
  refine BIBase.Entails.trans ?_ (BIClass.sep_mono (slotOn_any .y c c) (slotOn_any .y c (nb .y c)))
  by_cases h : c.val / 4 % 2 = 0
  · rw [dst_y c, if_pos h, dst_y (nb .y c), if_neg (by rw [nb_y_div]; omega)]
  · rw [dst_y c, if_neg h, dst_y (nb .y c), if_pos (by rw [nb_y_div]; omega)]; exact sep_comm.1
theorem z_give (c : Dev nD) : (bufAny c cc0_scratch6 : sProp 𝕄) ⊢ iprop(slotAny .up c (nb .dn c) ∗ slotAny .dn c (nb .up c)) :=
  (hz_split c).trans (BIClass.sep_mono (slotOn_any .up c (nb .dn c)) (slotOn_any .dn c (nb .up c)))

/-- The `x` buffer after the exchange: both slots, the one the face landed in holding it. -/
theorem x_landed (c : Dev nD) : (iprop(slotAny .x c c ∗ landPay m .x c) : sProp 𝕄)
    ⊢ iprop(∃ Y0 Y1 : FVec F S1x16x16 .f32, ⌜(c.val / 8 = 0 → Y1 = face m .x (nb .x c)) ∧ (c.val / 8 ≠ 0 → Y0 = face m .x (nb .x c))⌝
        ∗ owns (c : Thread nD τ) hx0 fullShare Y0 ∗ owns (c : Thread nD τ) hx1 fullShare Y1) := by
  refine (sep_mono_left (slotAny_on .x c c)).trans ?_
  have hc : c.val < 16 := c.isLt
  unfold landPay slotOn
  show iprop((∃ Y, owns (c : Thread nD τ) (dst .x c) fullShare Y) ∗ owns (c : Thread nD τ) (dst .x (nb .x c)) fullShare (face m .x (nb .x c))) ⊢ _
  by_cases h : c.val / 8 = 0
  · rw [dst_x c, if_pos h, dst_x (nb .x c), if_neg (by rw [nb_x_div]; omega)]
    iintro ⟨⟨%Y, H0⟩, H1⟩
    iexists Y; iexists _
    isplitr; swap; · isplitl [H0] <;> iassumption
    ipureintro; exact ⟨fun _ => rfl, fun h' => absurd h h'⟩
  · rw [dst_x c, if_neg h, dst_x (nb .x c), if_pos (by rw [nb_x_div]; omega)]
    iintro ⟨⟨%Y, H1⟩, H0⟩
    iexists _; iexists Y
    isplitr; swap; · isplitl [H0] <;> iassumption
    ipureintro; exact ⟨fun h' => absurd h' h, fun _ => rfl⟩

/-- The `y` buffer after the exchange. -/
theorem y_landed (c : Dev nD) : (iprop(slotAny .y c c ∗ landPay m .y c) : sProp 𝕄)
    ⊢ iprop(∃ Y0 Y1 : FVec F S16x1x16 .f32, ⌜(c.val / 4 % 2 = 0 → Y1 = face m .y (nb .y c)) ∧ (c.val / 4 % 2 ≠ 0 → Y0 = face m .y (nb .y c))⌝
        ∗ owns (c : Thread nD τ) hy0 fullShare Y0 ∗ owns (c : Thread nD τ) hy1 fullShare Y1) := by
  refine (sep_mono_left (slotAny_on .y c c)).trans ?_
  unfold landPay slotOn
  show iprop((∃ Y, owns (c : Thread nD τ) (dst .y c) fullShare Y) ∗ owns (c : Thread nD τ) (dst .y (nb .y c)) fullShare (face m .y (nb .y c))) ⊢ _
  by_cases h : c.val / 4 % 2 = 0
  · rw [dst_y c, if_pos h, dst_y (nb .y c), if_neg (by rw [nb_y_div]; omega)]
    iintro ⟨⟨%Y, H0⟩, H1⟩
    iexists Y; iexists _
    isplitr; swap; · isplitl [H0] <;> iassumption
    ipureintro; exact ⟨fun _ => rfl, fun h' => absurd h h'⟩
  · rw [dst_y c, if_neg h, dst_y (nb .y c), if_pos (by rw [nb_y_div]; omega)]
    iintro ⟨⟨%Y, H1⟩, H0⟩
    iexists _; iexists Y
    isplitr; swap; · isplitl [H0] <;> iassumption
    ipureintro; exact ⟨fun h' => absurd h' h, fun _ => rfl⟩
/-- A slot of the `z` buffer after the exchange: it holds the face if one arrived. -/
theorem z_landed (d : Dir) (c : Dev nD) : (iprop(whn (has (opp d) c) (landPay m d c) ∗ whn (!has (opp d) c) (slotAny d c (nb (opp d) c))) : sProp 𝕄)
    ⊢ iprop(∃ Y, ⌜has (opp d) c = true → Y = face m d (nb (opp d) c)⌝ ∗ owns (c : Thread nD τ) (dst d (nb (opp d) c)) fullShare Y) := by
  cases h : has (opp d) c
  · rw [whn_neg rfl, whn_pos (b := !false) rfl]
    refine sep_elim_right.trans ((slotAny_on d c (nb (opp d) c)).trans ?_)
    unfold slotOn
    iintro ⟨%Y, H⟩; iexists Y
    isplitr; · ipureintro; intro h; cases h
    iexact H
  · rw [whn_pos rfl]
    unfold landPay
    iintro ⟨H, -⟩; iexists _
    isplitr; swap; · iexact H
    ipureintro; exact fun _ => rfl

/-- A load of one slot of a landing buffer, the slot being owned at `Y`. -/
theorem wp_load_slot (c : Dev nD) {s s' : Shape} {e : EltTy} (M : Memref sig .tc .vmem s e) (r : Rect s) (hr : ∀ a, r.stride a = 1) (hq : r.shape.Squeezes s')
    {hl : M.view.LoadsAt r.toLoadRect} (hf : r.shape.ShapeCasts s') (hb : s'.ShapeCasts r.shape) {q : PosShare TreeShare} {Y : s'.Idx → Elt F e}
    {α : Type} {Q : α → sProp 𝕄} {k : (r.shape.Idx → Elt F e) → Prog (TpuEff nD τ sig (Elt F) Λ₀ .tc) α} :
    (owns (c : Thread nD τ) ((M.slice r hr).squeeze s' hq) q Y : sProp 𝕄)
      ⊢ iprop((owns (c : Thread nD τ) ((M.slice r hr).squeeze s' hq) q Y -∗ wpc c (k (shapeCast r.shape Y hb)) Q) -∗ wpc c (.op (.load M r.toLoadRect hl) k) Q) := by
  unfold owns
  iintro ⟨%f, %hY, H⟩ Hk
  have hv : M.view.readAt (Elt F) r.toLoadRect f = shapeCast r.shape Y hb := by
    rw [← hY, show ((M.slice r hr).squeeze s' hq).view.read (Elt F) f = shapeCast s' (M.view.readAt (Elt F) r.toLoadRect f) hf from rfl]
    exact (shapeCast_shapeCast _ hf hb).symm
  iapply (wp_load 𝒱₀ (c : Thread nD τ) none Set.univ (m := M) (r := r.toLoadRect) (S := ((M.slice r hr).squeeze s' hq).view.set) (f := f)
    (le_of_eq (((View.set_reshape _ _).trans (View.set_slice M.view r)).symm))) $$ H
  iintro H
  rw [hv]
  iapply Hk
  iexists f
  isplitr; · ipureintro; exact hY
  iexact H

/-! ## The value of a device -/

/-- The words the program computes from its device id: the three coordinates, and whether there is a device below, above. -/
abbrev wx (c : Dev nD) : BitVec 32 := Scalar.remsi (Scalar.divsi (Dev.word c) 8#32) 2#32
abbrev wy (c : Dev nD) : BitVec 32 := Scalar.remsi (Scalar.divsi (Dev.word c) 4#32) 2#32
abbrev wz (c : Dev nD) : BitVec 32 := Scalar.remsi (Scalar.divsi (Dev.word c) 1#32) 4#32
abbrev wDn (c : Dev nD) : BitVec 1 := Scalar.cmpi .sgt (wz c) 0#32
abbrev wUp (c : Dev nD) : BitVec 1 := Scalar.cmpi .slt (wz c) 3#32
abbrev io0 : IVec S16x16x16 32 := iota .tc S16x16x16 32 [0] iota_S16x16x16_d0_w32
abbrev io1 : IVec S16x16x16 32 := iota .tc S16x16x16 32 [1] iota_S16x16x16_d1_w32
abbrev io2 : IVec S16x16x16 32 := iota .tc S16x16x16 32 [2] iota_S16x16x16_d2_w32
abbrev back_x (Y : FVec F S1x16x16 .f32) : FVec F S1x1x16x16 .f32 := shapeCast S1x1x16x16 Y (by decide)
abbrev back_y (Y : FVec F S16x1x16 .f32) : FVec F S1x16x1x16 .f32 := shapeCast S1x16x1x16 Y (by decide)
abbrev back_z (Y : FVec F S16x16x1 .f32) : FVec F S1x16x16x1 .f32 := shapeCast S1x16x16x1 Y (by decide)

/-- What the program stores on device `c`, from its block and the contents of the six slots. -/
abbrev outV (c : Dev nD) (u : FVec F S16x16x16 .f32) (X0 X1 : FVec F S1x16x16 .f32) (Y0 Y1 : FVec F S16x1x16 .f32) (Z0 Z1 : FVec F S16x16x1 .f32) : FVec F S16x16x16 .f32 :=
  k0_pay1 (k0_pay12 (wUp c) io2
      (k0_pay10 (wy c) (wDn c) io1 io2 (k0_pay7 (wx c) (k0_pay6 u) io0 (back_x X0)) (k0_pay8 (wx c) io0) (Scalar.ofBits .f32 0x00000000#32) (k0_pay9 (back_x X1))
        (back_y Y0) (back_y Y1) (back_z Z0))
      k0_pay11 (back_z Z1))
    (k0_pay13 (wx c) (wy c) (wz c) io0 io1 io2) (k0_pay14 io2) (k0_pay15 (wz c))

/-- What the program stores on device `c`: the same with the neighbours' faces in the slots. -/
def outAt (c : Dev nD) : FVec F S16x16x16 .f32 :=
  outV c (ublk m c) (face m .x (nb .x c)) (face m .x (nb .x c)) (face m .y (nb .y c)) (face m .y (nb .y c)) (face m .up (nb .dn c)) (face m .dn (nb .up c))

/-- A mask that is nowhere set. -/
theorem select_off {s : Shape} (a : IVec s 1) (b : BitVec 1) (hb : b = 0#1) (x x' y : FVec F s .f32) :
    select (andi a (broadcast s b)) x y = select (andi a (broadcast s b)) x' y := by
  subst hb
  funext i
  show Scalar.select (IntOp.andi (a i) 0#1) (x i) (y i) = Scalar.select (IntOp.andi (a i) 0#1) (x' i) (y i)
  unfold Scalar.select IntOp.andi
  rw [BitVec.and_zero, if_neg (by decide), if_neg (by decide)]

theorem wx_lo (c : Dev nD) (h : c.val / 8 = 0) : Scalar.cmpi .sgt (wx c) 0#32 = 0#1 := by revert c; decide +kernel
theorem wx_hi (c : Dev nD) (h : c.val / 8 ≠ 0) : Scalar.cmpi .slt (wx c) 1#32 = 0#1 := by revert c; decide +kernel
theorem wy_lo (c : Dev nD) (h : c.val / 4 % 2 = 0) : Scalar.cmpi .sgt (wy c) 0#32 = 0#1 := by revert c; decide +kernel
theorem wy_hi (c : Dev nD) (h : c.val / 4 % 2 ≠ 0) : Scalar.cmpi .slt (wy c) 1#32 = 0#1 := by revert c; decide +kernel
theorem wDn_off (c : Dev nD) (h : ¬ has .dn c = true) : wDn c = 0#1 := by revert c; decide +kernel
theorem wUp_off (c : Dev nD) (h : ¬ has .up c = true) : wUp c = 0#1 := by revert c; decide +kernel

/-- The result does not depend on a slot no face landed in. -/
theorem outV_eq (c : Dev nD) (u : FVec F S16x16x16 .f32) (X X0 X1 : FVec F S1x16x16 .f32) (Y Y0 Y1 : FVec F S16x1x16 .f32) (U D Z0 Z1 : FVec F S16x16x1 .f32)
    (hX : (c.val / 8 = 0 → X1 = X) ∧ (c.val / 8 ≠ 0 → X0 = X)) (hY : (c.val / 4 % 2 = 0 → Y1 = Y) ∧ (c.val / 4 % 2 ≠ 0 → Y0 = Y))
    (hU : has .dn c = true → Z0 = U) (hD : has .up c = true → Z1 = D) :
    outV c u X0 X1 Y0 Y1 Z0 Z1 = outV c u X X Y Y U D := by
  have x0 : outV c u X0 X1 Y0 Y1 Z0 Z1 = outV c u X X1 Y0 Y1 Z0 Z1 := by
    by_cases h : c.val / 8 = 0
    · unfold outV k0_pay7; dsimp only; rw [select_off _ _ (wx_lo c h) _ _ _]
    · rw [hX.2 h]
  have x1 : outV c u X X1 Y0 Y1 Z0 Z1 = outV c u X X Y0 Y1 Z0 Z1 := by
    by_cases h : c.val / 8 = 0
    · rw [hX.1 h]
    · unfold outV k0_pay10 k0_pay8 k0_pay9; dsimp only; rw [select_off _ _ (wx_hi c h) _ _ _]
  have y0 : outV c u X X Y0 Y1 Z0 Z1 = outV c u X X Y Y1 Z0 Z1 := by
    by_cases h : c.val / 4 % 2 = 0
    · unfold outV k0_pay10; dsimp only; rw [select_off _ _ (wy_lo c h) _ _ _]
    · rw [hY.2 h]
  have y1 : outV c u X X Y Y1 Z0 Z1 = outV c u X X Y Y Z0 Z1 := by
    by_cases h : c.val / 4 % 2 = 0
    · rw [hY.1 h]
    · unfold outV k0_pay10; dsimp only; rw [select_off _ _ (wy_hi c h) _ _ _]
  have z0 : outV c u X X Y Y Z0 Z1 = outV c u X X Y Y U Z1 := by
    by_cases h : has .dn c = true
    · rw [hU h]
    · unfold outV k0_pay10; dsimp only; rw [select_off _ _ (wDn_off c h) _ _ _]
  have z1 : outV c u X X Y Y U Z1 = outV c u X X Y Y U D := by
    by_cases h : has .up c = true
    · rw [hD h]
    · unfold outV k0_pay12; dsimp only; rw [select_off _ _ (wUp_off c h) _ _ _]
  rw [x0, x1, y0, y1, z0, z1]

end Cert.KernelIdeal.Halo

end
-- ==== Proof.BodyIdeal.lean ====
/-
  The idealized kernel's body on a symbolic device, part by part in program order: the signals, the faces stored and the
  wait for the neighbours, the sends, the arrivals, the reads of the landing slots, and the sends' buffers back.
-/
module

public import proofs.«01_k».proof.Proof.SlotsIdeal

@[expose] public section

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Cell → ℕ)

/-- A piece of the program on the buffers the launch gives it. -/
abbrev onBufs {β : Type 1} (f : (a0 : Memref sig .tc .vmem S16x16x16 .f32) → a0.IsWhole → (a1 : Memref sig .tc .vmem S16x16x16 .f32) → a1.IsWhole
    → (a2 : Memref sig .tc .vmem S1x16x16 .f32) → a2.IsWhole → (a3 : Memref sig .tc .vmem S16x1x16 .f32) → a3.IsWhole
    → (a4 : Memref sig .tc .vmem S16x16x1 .f32) → a4.IsWhole → (a5 : Memref sig .tc .vmem S16x16x1 .f32) → a5.IsWhole
    → (a6 : Memref sig .tc .vmem S2x1x16x16 .f32) → a6.IsWhole → (a7 : Memref sig .tc .vmem S2x16x1x16 .f32) → a7.IsWhole
    → (a8 : Memref sig .tc .vmem S2x16x16x1 .f32) → a8.IsWhole → DmaSems sig S4 → DmaSems sig S4 → β) : β :=
  f (Memref.whole cc0_stg0_0) (Memref.isWhole_whole _) (Memref.whole cc0_stg1_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    (Memref.whole cc0_scratch6) (Memref.isWhole_whole _) cc0_scratch7 cc0_scratch8

abbrev barSems : Sems sig S_ := SemArray.scalar (sig.barrier 0 rfl)

theorem wpc_op (c : Dev nD) {α β : Type} (e : TpuEff nD τ sig (Elt F) Λ₀ .tc α) (k : α → Prog (TpuEff nD τ sig (Elt F) Λ₀ .tc) β) (Q : β → sProp 𝕄) :
    wpc c (Prog.lift e >>= k) Q = wpc c (.op e k) Q := by
  rw [Prog.lift, Prog.bind_op]; simp only [Prog.bind_ret]

theorem wp_signal_now (c n : Dev nD) (d : Dir) (hn : n = nb d c) (hd : has d c = true) (O : CellTallies nD τ sig Unit)
    {α : Type} {Q : α → sProp 𝕄} {k : PUnit → Prog (TpuEff nD τ sig (Elt F) Λ₀ .tc) α} :
    iprop(records m K ∗ owesE c (O + bOwe d c) ∗ dutyTok ER (barC (nb d c)) 0 (opp d) ∗ slotAny (opp d) c (nb d c))
      ⊢ iprop((owesE c O -∗ wpc c (k ⟨⟩) Q) -∗ wpc c (semSignalWord n barS 1#32 >>= k) Q) := by
  unfold semSignalWord
  simp only [Prog.lift, Prog.bind_op, Prog.bind_ret]
  exact wp_signal_to m K c n d hn hd O _ (by decide)

/-- Part 1: the device enters its neighbours' barriers, giving each the slot its face will land in. -/
theorem part1_spec (c : Dev nD) {Q : _ → sProp 𝕄} :
    iprop(records m K ∗ owesE c (O₀ c)
        ∗ (dutyTok ER (barC (nb .x c)) 0 .x ∗ dutyTok ER (barC (nb .y c)) 0 .y ∗ dutyTok ER (barC (nb .up c)) 0 .dn ∗ dutyTok ER (barC (nb .dn c)) 0 .up)
        ∗ slotAny .x c (nb .x c) ∗ slotAny .y c (nb .y c) ∗ slotAny .dn c (nb .up c) ∗ slotAny .up c (nb .dn c))
      ⊢ iprop(((owesE c (oX c) ∗ whn (!has .up c) (slotAny .dn c (nb .up c)) ∗ whn (!has .dn c) (slotAny .up c (nb .dn c)))
            -∗ Q ⟨c, wx c, wy c, wz c, wDn c, wUp c, barSems, Scalar.cmpi .eq (wx c) 0#32, 15#32⟩)
          -∗ wpc c (onBufs (k0_part1 (F := F))) Q) := by
  unfold onBufs
  rw [k0_part1_eq_skeleton]; unfold k0_part1_skel
  rw [wpc_op]
  simp only [wp_deviceId]
  iintro ⟨#HR, HO, ⟨Htx, Hty, Htu, Htd⟩, Hsx, Hsy, Hsd, Hsu⟩ Hk
  ihave Hsd := (whn_split (has .up c) _) $$ Hsd
  ihave Hsu := (whn_split (has .dn c) _) $$ Hsu
  icases Hsd with ⟨Hsd, Hkd⟩
  icases Hsu with ⟨Hsu, Hku⟩
  iapply (wp_signal_now m K c _ .x (dev1_eq c) rfl (oX c + bOwe .dn c + bOwe .up c + bOwe .y c)) $$ [HO Htx Hsx]
  · isplitr; · iexact HR
    isplitl [HO]; · iexact HO
    isplitl [Htx]; · iexact Htx
    iexact Hsx
  iintro HO
  iapply (wp_signal_now m K c _ .y (dev2_eq c) rfl (oX c + bOwe .dn c + bOwe .up c)) $$ [HO Hty Hsy]
  · isplitr; · iexact HR
    isplitl [HO]; · iexact HO
    isplitl [Hty]; · iexact Hty
    iexact Hsy
  iintro HO
  iapply (wp_signal_if m K c .up _ (cond1_iff c) _ (dev3_eq c) (oX c + bOwe .dn c)) $$ [HO Htu Hsd]
  · isplitr; · iexact HR
    isplitl [HO]; · iexact HO
    isplitl [Htu]; · iexact Htu
    iexact Hsd
  iintro HO
  iapply (wp_signal_if m K c .dn _ (cond2_iff c) _ (dev4_eq c) (oX c)) $$ [HO Htd Hsu]
  · isplitr; · iexact HR
    isplitl [HO]; · iexact HO
    isplitl [Htd]; · iexact Htd
    iexact Hsu
  iintro HO
  iapply (wpc_ret c)
  iapply Hk
  isplitl [HO]; · iexact HO
  isplitl [Hkd]; · iexact Hkd
  iexact Hku

/-! ## The faces stored -/

/-- A buffer read and then overwritten whole. -/
theorem wp_put (c : Dev nD) {s : Shape} {e : EltTy} {M : Memref sig .tc .vmem s e} {r : Rect s} {w : r.shape.Idx → Elt F e}
    {hl : M.view.LoadsAt r.toLoadRect} {hx : (M.access r).Stores Finset.univ} {hm : Finset.univ = Finset.univ ∨ ∀ a, r.stride a = 1}
    (g : Buf (Elt F) (M.view.loc (c : Thread nD τ))) (hw : ∀ f, (M.access r).write (Elt F) f w Finset.univ = g)
    {α : Type} {Q : α → sProp 𝕄} {k : PUnit → Prog (TpuEff nD τ sig (Elt F) Λ₀ .tc) α} :
    (iprop(∃ f : Buf (Elt F) (M.view.loc (c : Thread nD τ)), (M.view.loc (c : Thread nD τ)) ↦{fullShare} f) : sProp 𝕄)
      ⊢ iprop((((M.view.loc (c : Thread nD τ)) ↦{fullShare} g) -∗ wpc c (k ⟨⟩) Q)
        -∗ wpc c (Prog.lift (.load M r.toLoadRect hl) >>= fun _ => Prog.lift (.store M r w Finset.univ hx hm) >>= k) Q) := by
  rw [wpc_op]
  iintro ⟨%f, H⟩ Hk
  iapply (wp_load 𝒱₀ (c : Thread nD τ) none Set.univ (m := M) (Finset.subset_univ _)) $$ H
  iintro H
  iapply (Entails.of_eq (wpc_op c _ _ _).symm)
  iapply (wp_store 𝒱₀ (c : Thread nD τ) none Set.univ (m := M) (r := r) (Mk := Finset.univ) (Finset.subset_univ _)) $$ H
  iintro H
  rw [hw]
  iapply Hk; iexact H

/-- The device's block of `u`, staged. -/
def uPts (c : Dev nD) : sProp 𝕄 := ((c : Thread nD τ).loc cc0_stg0_0) ↦{fullShare} ublk m c

theorem hz3 : (![0, 0, 0] : Fin 3 → Nat) = fun _ => 0 := funext fun a => by fin_cases a <;> rfl

/-- A read of the block of `u`. -/
theorem wp_read_u (c : Dev nD) {r : LoadRect S16x16x16} {hl : (Memref.whole cc0_stg0_0 : Memref sig .tc .vmem S16x16x16 .f32).view.LoadsAt r}
    {α : Type} {Q : α → sProp 𝕄} {k : _ → Prog (TpuEff nD τ sig (Elt F) Λ₀ .tc) α} :
    uPts m c ⊢ iprop((uPts m c -∗ wpc c (k ((Memref.whole cc0_stg0_0 : Memref sig .tc .vmem S16x16x16 .f32).view.readAt (Elt F) r (ublk m c))) Q)
      -∗ wpc c (Prog.lift (.load (Memref.whole cc0_stg0_0 : Memref sig .tc .vmem S16x16x16 .f32) r hl) >>= k) Q) := by
  rw [wpc_op]
  unfold uPts
  exact wp_load 𝒱₀ (c : Thread nD τ) none Set.univ (m := (Memref.whole cc0_stg0_0 : Memref sig .tc .vmem S16x16x16 .f32)) (Finset.subset_univ _)

/-- The wait's amounts are the number of neighbours. -/
theorem wait_four (c : Dev nD) : Scalar.cmpi .ne (Scalar.extui (Scalar.andi (wDn c) (wUp c)) : BitVec 32) 0#32 = 1#1 → (4#32 : BitVec 32).toInt = ((deg c : ℕ) : ℤ) := by
  revert c; decide +kernel
theorem wait_three (c : Dev nD) : Scalar.cmpi .ne (Scalar.extui (Scalar.xori (Scalar.andi (wDn c) (wUp c)) 1#1) : BitVec 32) 0#32 = 1#1 → (3#32 : BitVec 32).toInt = ((deg c : ℕ) : ℤ) := by
  revert c; decide +kernel
theorem wait_other (c : Dev nD) : Scalar.cmpi .ne (Scalar.extui (Scalar.xori (Scalar.andi (wDn c) (wUp c)) 1#1) : BitVec 32) 0#32 = 1#1
    ↔ ¬ Scalar.cmpi .ne (Scalar.extui (Scalar.andi (wDn c) (wUp c)) : BitVec 32) 0#32 = 1#1 := by
  revert c; decide +kernel

/-- Part 2: the four faces stored, and the wait for the neighbours on a device that has four. -/
theorem part2_spec (c : Dev nD) {Q : _ → sProp 𝕄} :
    iprop(records m K ∗ levAts L lv ∗ barTodo c ∗ uPts m c ∗ bufAny c cc0_scratch0 ∗ bufAny c cc0_scratch1 ∗ bufAny c cc0_scratch2 ∗ bufAny c cc0_scratch3)
      ⊢ iprop((((if Scalar.cmpi .ne (Scalar.extui (Scalar.andi (wDn c) (wUp c)) : BitVec 32) 0#32 = 1#1 then barDone c else barTodo c)
              ∗ uPts m c ∗ srcPay m .x c ∗ srcPay m .y c ∗ srcPay m .up c ∗ srcPay m .dn c) -∗ Q (Scalar.andi (wDn c) (wUp c)))
          -∗ wpc c (onBufs (k0_part2 (F := F)) c (wy c) (wDn c) (wUp c) barSems (Scalar.cmpi .eq (wx c) 0#32) 15#32) Q) := by
  unfold onBufs
  rw [k0_part2_eq_skeleton]; unfold k0_part2_skel
  iintro ⟨#HR, #HL, Hb, Hu, H0, H1, H2, H3⟩ Hk
  unfold bufAny
  iapply (wp_read_u m c) $$ Hu
  iintro Hu
  beta_reduce
  iapply (wp_put c (M := Memref.whole cc0_scratch0) (r := Rect.unit (s := S1x16x16) ![0, 0, 0] S1x16x16.size inb_S1x16x16_S1x16x16_0_0_0) (face m .x c)
      (fun f => Memref.write_access_unit_zero_univ (Elt F) cc0_scratch0 hz3 _ f _)) $$ H0
  iintro H0
  iapply (wp_read_u m c) $$ Hu
  iintro Hu
  beta_reduce
  iapply (wp_put c (M := Memref.whole cc0_scratch1) (r := Rect.unit (s := S16x1x16) ![0, 0, 0] S16x1x16.size inb_S16x1x16_S16x1x16_0_0_0) (face m .y c)
      (fun f => Memref.write_access_unit_zero_univ (Elt F) cc0_scratch1 hz3 _ f _)) $$ H1
  iintro H1
  iapply (wp_read_u m c) $$ Hu
  iintro Hu
  beta_reduce
  iapply (wp_put c (M := Memref.whole cc0_scratch3) (r := Rect.unit (s := S16x16x1) ![0, 0, 0] S16x16x1.size inb_S16x16x1_S16x16x1_0_0_0) (face m .up c)
      (fun f => Memref.write_access_unit_zero_univ (Elt F) cc0_scratch3 hz3 _ f _)) $$ H3
  iintro H3
  iapply (wp_read_u m c) $$ Hu
  iintro Hu
  beta_reduce
  iapply (wp_put c (M := Memref.whole cc0_scratch2) (r := Rect.unit (s := S16x16x1) ![0, 0, 0] S16x16x1.size inb_S16x16x1_S16x16x1_0_0_0) (face m .dn c)
      (fun f => Memref.write_access_unit_zero_univ (Elt F) cc0_scratch2 hz3 _ f _)) $$ H2
  iintro H2
  iapply (wp_bar_if m K c _ _ (wait_four c)) $$ [Hb]
  · isplitr; · iexact HR
    isplitr; · iexact HL
    iexact Hb
  iintro Hb
  iapply (wpc_ret c)
  iapply Hk
  isplitl [Hb]; · iexact Hb
  isplitl [Hu]; · iexact Hu
  unfold srcPay
  isplitl [H0]; · iapply (Entails.of_eq (owns_whole (c : Thread nD τ) cc0_scratch0 fullShare (face m .x c)).symm); iexact H0
  isplitl [H1]; · iapply (Entails.of_eq (owns_whole (c : Thread nD τ) cc0_scratch1 fullShare (face m .y c)).symm); iexact H1
  isplitl [H3]; · iapply (Entails.of_eq (owns_whole (c : Thread nD τ) cc0_scratch3 fullShare (face m .up c)).symm); iexact H3
  iapply (Entails.of_eq (owns_whole (c : Thread nD τ) cc0_scratch2 fullShare (face m .dn c)).symm); iexact H2

/-! ## The exchange -/

/-- A statement about the four directions. -/
def four (Φ : Dir → sProp 𝕄) : sProp 𝕄 := iprop(Φ .x ∗ Φ .y ∗ Φ .up ∗ Φ .dn)

theorem bigSep_four (Φ : Dir → sProp 𝕄) : bigSep Finset.univ Φ = four Φ :=
  bigSep_univ_eq_bigSepL [Dir.x, Dir.y, Dir.up, Dir.dn] (by decide) (by decide) Φ

/-- The slots the neighbours gave. -/
theorem given (c : Dev nD) : (bigSep (Finset.univ.filter fun d => has d c = true) (fun d => barPay d c) : sProp 𝕄)
    ⊢ four fun d => whn (has d c) (slotAny d (nb d c) c) := by
  rw [bigSep_filter, ← bigSep_four]
  refine bigSep_mono fun d _ => ?_
  show (if has d c = true then barPay d c else iprop(emp) : sProp 𝕄) ⊢ whn (has d c) (slotAny d (nb d c) c)
  unfold whn barPay
  split
  · show (iprop(slotAny d (nb d c) c ∗ reached ER (recvC d (nb d c)) 0) : sProp 𝕄) ⊢ slotAny d (nb d c) c
    iintro ⟨H, -⟩; iexact H
  · show (iprop(emp) : sProp 𝕄) ⊢ iprop(emp)
    iintro H; iexact H

/-- The second of the two exclusive waits. -/
theorem wp_bar_rest (c : Dev nD) (p q : Prop) [Decidable p] [Decidable q] (hq : q ↔ ¬ p) (w : BitVec 32) (hw : q → w.toInt = ((deg c : ℕ) : ℤ))
    {α : Type} {Q : α → sProp 𝕄} {P : Prog (TpuEff nD τ sig (Elt F) Λ₀ .tc) α} :
    iprop(records m K ∗ levAts L lv ∗ (if p then barDone c else barTodo c))
      ⊢ iprop((barDone c -∗ wpc c P Q) -∗ wpc c (if h : q then (semWaitWord barS w >>= fun _ => P) else P) Q) := by
  by_cases h : p
  · rw [if_pos h, dif_neg (fun hh => hq.mp hh h)]
    iintro ⟨-, -, H⟩ Hk
    iapply Hk; iexact H
  · rw [if_neg h]
    have e := wp_bar_if m K c q w hw (Q := Q) (P := P)
    rw [if_pos (hq.mpr h)] at e
    exact e

theorem wp_send_now (c n : Dev nD) (d : Dir) (hn : n = nb d c) (hd : has d c = true)
    {hsc : (dst d c).view.ref.isScScratch = false} {hsrc : (src d).view.WordExact} {hdst : (dst d c).view.WordExact}
    {hsem : DmaTarget.Typed .vmem (.dma (recvS d)) (.remote (Dev.tc n : Thread nD τ) (dst d c) (.dma (sendS d)) hsc)}
    (O : CellTallies nD τ sig Unit) {α : Type} {Q : α → sProp 𝕄} {k : PUnit → Prog (TpuEff nD τ sig (Elt F) Λ₀ .tc) α} :
    iprop(records m K ∗ owesE c (O + rOwe d c) ∗ srcPay m d c ∗ slotAny d (nb d c) c ∗ dutyTok ER (sendC d c) 0 d ∗ dutyTok ER (recvC d (nb d c)) 0 d)
      ⊢ iprop(((owesE c O ∗ cred (tallyAt (sendC d c) () (N d))) -∗ wpc c (k ⟨⟩) Q)
        -∗ wpc c (Prog.lift (.enqueueDma (src d) (.remote (Dev.tc n : Thread nD τ) (dst d c) (.dma (sendS d)) hsc) (.dma (recvS d)) hsrc hdst hsem) >>= k) Q) := by
  rw [wpc_op]
  exact wp_send_to m K c n d hn hd O

theorem wp_recv_now (c : Dev nD) (d : Dir) (hd : has (opp d) c = true) {sp sp' : Space} {s : Shape} {e : EltTy}
    {a : Memref sig .tc sp s e} {b : Memref sig .tc sp' s e}
    {ha : a.view.WordExact} {hb : b.view.WordExact} (hN : b.view.dmaCredit = N d)
    {α : Type} {Q : α → sProp 𝕄} {k : PUnit → Prog (TpuEff nD τ sig (Elt F) Λ₀ .tc) α} :
    iprop(records m K ∗ owesE c 0 ∗ cred (tallyAt (recvC d c) () (N d)) ∗ atPos ER (recvC d c) 0 ∅ 0)
      ⊢ iprop(((owesE c 0 ∗ atPos ER (recvC d c) 1 ∅ 0 ∗ landPay m d c) -∗ wpc c (k ⟨⟩) Q)
        -∗ wpc c (Prog.lift (.waitDma2 (recvS d) a b ha hb) >>= k) Q) := by
  rw [wpc_op]
  exact wp_recv m K c d hd hN

theorem wp_sent_now (c : Dev nD) (d : Dir) (hd : has d c = true) {sp sp' : Space} {s : Shape} {e : EltTy}
    {a : Memref sig .tc sp s e} {b : Memref sig .tc sp' s e}
    {ha : a.view.WordExact} {hb : b.view.WordExact} (hN : b.view.dmaCredit = N d)
    {α : Type} {Q : α → sProp 𝕄} {k : PUnit → Prog (TpuEff nD τ sig (Elt F) Λ₀ .tc) α} :
    iprop(records m K ∗ owesE c 0 ∗ cred (tallyAt (sendC d c) () (N d)) ∗ atPos ER (sendC d c) 0 ∅ 0)
      ⊢ iprop(((owesE c 0 ∗ atPos ER (sendC d c) 1 ∅ 0 ∗ srcPay m d c) -∗ wpc c (k ⟨⟩) Q)
        -∗ wpc c (Prog.lift (.waitDma2 (sendS d) a b ha hb) >>= k) Q) := by
  rw [wpc_op]
  exact wp_sent m K c d hd hN

/-- The tokens a sender pays a direction's two semaphores with. -/
def sendTok (d : Dir) (c : Dev nD) : sProp 𝕄 := iprop(dutyTok ER (sendC d c) 0 d ∗ dutyTok ER (recvC d (nb d c)) 0 d)
/-- The credit of a face on its way. -/
abbrev sent (d : Dir) (c : Dev nD) : sProp 𝕄 := cred (tallyAt (sendC d c) () (N d))

/-- Part 3: the wait on a device with three neighbours, and the faces sent across `x`, across `y` and up. -/
theorem part3_spec (c : Dev nD) {Q : _ → sProp 𝕄} :
    iprop(records m K ∗ levAts L lv ∗ (if Scalar.cmpi .ne (Scalar.extui (Scalar.andi (wDn c) (wUp c)) : BitVec 32) 0#32 = 1#1 then barDone c else barTodo c)
        ∗ srcPay m .x c ∗ srcPay m .y c ∗ srcPay m .up c ∗ sendTok .x c ∗ sendTok .y c ∗ sendTok .up c)
      ⊢ iprop(((owesE c (oDn c) ∗ atPos ER (barC c) 1 ∅ 0 ∗ sent .x c ∗ sent .y c ∗ whn (has .up c) (sent .up c)
              ∗ whn (!has .up c) (srcPay m .up c) ∗ whn (has .dn c) (slotAny .dn (nb .dn c) c))
            -∗ Q ⟨Scalar.subi 1#32 (wx c), Scalar.subi 1#32 (wy c), Scalar.extui (wDn c), 0#32⟩)
          -∗ wpc c (onBufs (k0_part3 (F := F)) c (wx c) (wy c) (wz c) (wDn c) (wUp c) barSems (Scalar.andi (wDn c) (wUp c))) Q) := by
  unfold onBufs
  rw [k0_part3_eq_skeleton]; unfold k0_part3_skel
  dsimp only
  iintro ⟨#HR, #HL, Hb, Hsx, Hsy, Hsu, Htx, Hty, Htu⟩ Hk
  iapply (wp_bar_rest m K c _ _ (wait_other c) _ (wait_three c)) $$ [Hb]
  · isplitr; · iexact HR
    isplitr; · iexact HL
    iexact Hb
  unfold barDone
  iintro ⟨HO, Ha, Hg⟩
  ihave Hg := (given c) $$ Hg
  unfold four sendTok
  simp only [whn_pos (show has .x c = true from rfl), whn_pos (show has .y c = true from rfl)]
  icases Hg with ⟨Hgx, Hgy, Hgu, Hgd⟩
  iapply (wp_send_now m K c _ .x (dev5_eq c) rfl (oY c)) $$ [HO Hsx Hgx Htx]
  · isplitr; · iexact HR
    isplitl [HO]; · iexact HO
    isplitl [Hsx]; · iexact Hsx
    isplitl [Hgx]; · iexact Hgx
    iexact Htx
  iintro ⟨HO, Hcx⟩
  iapply (wp_send_now m K c _ .y (dev6_eq c) rfl (oUp c)) $$ [HO Hsy Hgy Hty]
  · isplitr; · iexact HR
    isplitl [HO]; · iexact HO
    isplitl [Hsy]; · iexact Hsy
    isplitl [Hgy]; · iexact Hgy
    iexact Hty
  iintro ⟨HO, Hcy⟩
  ihave Hsu := (whn_split (has .up c) _) $$ Hsu
  icases Hsu with ⟨Hsu, Hku⟩
  iapply (wp_if c (has .up c) _ (cond5_iff c) (sendTodo m K .up c (oDn c)) (sendDone .up c (oDn c)) ?sent (send_off m K .up c (oDn c))) $$ [HO Hsu Hgu Htu]
  case sent =>
    intro h hb
    unfold sendTodo sendDone
    simp only [whn_pos hb]
    exact wp_send_now m K c _ .up (dev7_eq c h) hb (oDn c) (k := fun _ => _)
  · unfold sendTodo
    isplitr; · iexact HR
    isplitl [HO]; · iexact HO
    isplitl [Hsu]; · iexact Hsu
    isplitl [Hgu]; · iexact Hgu
    iexact Htu
  unfold sendDone
  iintro ⟨HO, Hcu⟩
  iapply (wpc_ret c)
  iapply Hk
  isplitl [HO]; · iexact HO
  isplitl [Ha]; · iexact Ha
  isplitl [Hcx]; · iexact Hcx
  isplitl [Hcy]; · iexact Hcy
  isplitl [Hcu]; · iexact Hcu
  isplitl [Hku]; · iexact Hku
  iexact Hgd

theorem read_u (f : (cc0_stg0_0 : Ref sig .tc).ty.Contents (Elt F)) :
    (Memref.whole cc0_stg0_0 : Memref sig .tc .vmem S16x16x16 .f32).view.readAt (Elt F)
      (Rect.unit (s := S16x16x16) ![0, 0, 0] S16x16x16.size inb_S16x16x16_S16x16x16_0_0_0).toLoadRect f = f :=
  Memref.readAt_unit_zero (Elt F) cc0_stg0_0 hz3 _ f

/-- Part 4: the face sent down, the block read, and the face arriving across `x`. -/
theorem part4_spec (c : Dev nD) (a b : BitVec 32) (e : BitVec 32) {Q : _ → sProp 𝕄} :
    iprop(records m K ∗ owesE c (oDn c) ∗ uPts m c ∗ srcPay m .dn c ∗ whn (has .dn c) (slotAny .dn (nb .dn c) c) ∗ sendTok .dn c
        ∗ cred (tallyAt (recvC .x c) () (N .x)) ∗ atPos ER (recvC .x c) 0 ∅ 0)
      ⊢ iprop(((owesE c 0 ∗ uPts m c ∗ whn (has .dn c) (sent .dn c) ∗ whn (!has .dn c) (srcPay m .dn c) ∗ atPos ER (recvC .x c) 1 ∅ 0 ∗ landPay m .x c)
            -∗ Q ⟨k0_pay6 (ublk m c), io0, io1, io2, 8#32⟩)
          -∗ wpc c (onBufs (k0_part4 (F := F)) c (wx c) (wy c) (wz c) a b e) Q) := by
  unfold onBufs
  rw [k0_part4_eq_skeleton]; unfold k0_part4_skel
  dsimp only
  unfold sendTok
  iintro ⟨#HR, HO, Hu, Hsd, Hgd, Htd, Hc, Ha⟩ Hk
  ihave Hsd := (whn_split (has .dn c) _) $$ Hsd
  icases Hsd with ⟨Hsd, Hkd⟩
  iapply (wp_if c (has .dn c) _ (cond6_iff c) (sendTodo m K .dn c 0) (sendDone .dn c 0) ?sent (send_off m K .dn c 0)) $$ [HO Hsd Hgd Htd]
  case sent =>
    intro h hb
    unfold sendTodo sendDone
    simp only [whn_pos hb]
    exact wp_send_now m K c _ .dn (dev8_eq c h) hb 0 (k := fun _ => _)
  · unfold sendTodo
    isplitr; · iexact HR
    isplitl [HO]; · iexact HO
    isplitl [Hsd]; · iexact Hsd
    isplitl [Hgd]; · iexact Hgd
    iexact Htd
  unfold sendDone
  iintro ⟨HO, Hcd⟩
  iapply (wp_read_u m c) $$ Hu
  iintro Hu
  rw [read_u]
  iapply (wp_recv_now m K c .x rfl (credit_dst .x c)) $$ [HO Hc Ha]
  · isplitr; · iexact HR
    isplitl [HO]; · iexact HO
    isplitl [Hc]; · iexact Hc
    iexact Ha
  iintro ⟨HO, Ha, Hl⟩
  iapply (wpc_ret c)
  iapply Hk
  isplitl [HO]; · iexact HO
  isplitl [Hu]; · iexact Hu
  isplitl [Hcd]; · iexact Hcd
  isplitl [Hkd]; · iexact Hkd
  isplitl [Ha]; · iexact Ha
  iexact Hl

/-! ## The arrivals read -/

theorem wDn_iff (c : Dev nD) : Scalar.cmpi .ne (Scalar.extui (wDn c) : BitVec 32) 0#32 = 1#1 ↔ has .dn c = true := by revert c; decide +kernel
theorem wUp_iff (c : Dev nD) : Scalar.cmpi .ne (Scalar.extui (wUp c) : BitVec 32) 0#32 = 1#1 ↔ has .up c = true := by revert c; decide +kernel

theorem wp_slot_now (c : Dev nD) {s s' : Shape} {e : EltTy} (M : Memref sig .tc .vmem s e) (r : Rect s) (hr : ∀ a, r.stride a = 1) (hq : r.shape.Squeezes s')
    {hl : M.view.LoadsAt r.toLoadRect} (hf : r.shape.ShapeCasts s') (hb : s'.ShapeCasts r.shape) {q : PosShare TreeShare} {Y : s'.Idx → Elt F e}
    (w : r.shape.Idx → Elt F e) (hw : shapeCast r.shape Y hb = w) {α : Type} {Q : α → sProp 𝕄} {k : (r.shape.Idx → Elt F e) → Prog (TpuEff nD τ sig (Elt F) Λ₀ .tc) α} :
    (owns (c : Thread nD τ) ((M.slice r hr).squeeze s' hq) q Y : sProp 𝕄)
      ⊢ iprop((owns (c : Thread nD τ) ((M.slice r hr).squeeze s' hq) q Y -∗ wpc c (k w) Q)
        -∗ wpc c (Prog.lift (.load M r.toLoadRect hl) >>= k) Q) := by
  rw [wpc_op, ← hw]
  exact wp_load_slot c M r hr hq hf hb

/-- A round paid for is over. -/
theorem at_one (g : GSem nD τ sig) {b : Bool} (h : b = true) : (atPos ER g 1 ∅ 0 : sProp 𝕄) ⊢ atPos ER g (rnd b) ∅ 0 := by
  subst h; exact Entails.of_eq rfl

/-- What a direction's arrival starts from and leaves. -/
def landTodo (d : Dir) (c : Dev nD) : sProp 𝕄 := iprop(whn (has (opp d) c) (cred (tallyAt (recvC d c) () (N d))) ∗ atPos ER (recvC d c) 0 ∅ 0)
def landDone (d : Dir) (c : Dev nD) : sProp 𝕄 := iprop(atPos ER (recvC d c) (rnd (has (opp d) c)) ∅ 0 ∗ whn (has (opp d) c) (landPay m d c))

/-- Part 5: the faces arriving across `y`, from below and from above, and the reads of the `x` slots. -/
theorem part5_spec (c : Dev nD) (a b : BitVec 32) (V : FVec F S16x16x16 .f32) (X0 X1 : FVec F S1x16x16 .f32) {Q : _ → sProp 𝕄} :
    iprop(records m K ∗ owesE c 0 ∗ landTodo .y c ∗ landTodo .up c ∗ landTodo .dn c
        ∗ owns (c : Thread nD τ) hx0 fullShare X0 ∗ owns (c : Thread nD τ) hx1 fullShare X1)
      ⊢ iprop(((owesE c 0 ∗ landDone m .y c ∗ landDone m .up c ∗ landDone m .dn c
              ∗ owns (c : Thread nD τ) hx0 fullShare X0 ∗ owns (c : Thread nD τ) hx1 fullShare X1)
            -∗ Q ⟨k0_pay7 (wx c) V io0 (back_x X0), k0_pay8 (wx c) io0, Scalar.ofBits .f32 0x00000000#32, k0_pay9 (back_x X1)⟩)
          -∗ wpc c (onBufs (k0_part5 (F := F)) c (wx c) (wy c) (wz c) (wDn c) (wUp c) a V io0 b) Q) := by
  unfold onBufs
  rw [k0_part5_eq_skeleton]; unfold k0_part5_skel
  dsimp only
  unfold landTodo landDone
  rw [whn_pos (show has (opp .y) c = true from rfl), whn_pos (show has (opp .y) c = true from rfl)]
  iintro ⟨#HR, HO, ⟨Hcy, Hay⟩, ⟨Hcu, Hau⟩, ⟨Hcd, Had⟩, H0, H1⟩ Hk
  iapply (wp_recv_now m K c .y rfl (credit_dst .y c)) $$ [HO Hcy Hay]
  · isplitr; · iexact HR
    isplitl [HO]; · iexact HO
    isplitl [Hcy]; · iexact Hcy
    iexact Hay
  iintro ⟨HO, Hay, Hly⟩
  iapply (wp_recv_if m K c .up _ (wDn_iff c) (credit_dst .up c)) $$ [HO Hcu Hau]
  · isplitr; · iexact HR
    isplitl [HO]; · iexact HO
    isplitl [Hcu]; · iexact Hcu
    iexact Hau
  iintro ⟨HO, Hau, Hlu⟩
  iapply (wp_recv_if m K c .dn _ (wUp_iff c) (credit_dst .dn c)) $$ [HO Hcd Had]
  · isplitr; · iexact HR
    isplitl [HO]; · iexact HO
    isplitl [Hcd]; · iexact Hcd
    iexact Had
  iintro ⟨HO, Had, Hld⟩
  iapply (wp_slot_now c (Memref.whole cc0_scratch4) (Rect.unit (s := S2x1x16x16) ![0, 0, 0, 0] S1x1x16x16.size inb_S2x1x16x16_S1x1x16x16_0_0_0_0) (fun _ => rfl)
      squeezes_S1x1x16x16_S1x16x16 (by decide) (by decide) (back_x X0) rfl) $$ H0
  iintro H0
  iapply (wp_slot_now c (Memref.whole cc0_scratch4) (Rect.unit (s := S2x1x16x16) ![1, 0, 0, 0] S1x1x16x16.size inb_S2x1x16x16_S1x1x16x16_1_0_0_0) (fun _ => rfl)
      squeezes_S1x1x16x16_S1x16x16 (by decide) (by decide) (back_x X1) rfl) $$ H1
  iintro H1
  iapply (wpc_ret c)
  iapply Hk
  isplitl [HO]; · iexact HO
  isplitl [Hay Hly]
  · isplitl [Hay]; · iapply (at_one (recvC .y c) rfl); iexact Hay
    iexact Hly
  isplitl [Hau Hlu]; · isplitl [Hau] <;> iassumption
  isplitl [Had Hld]; · isplitl [Had] <;> iassumption
  isplitl [H0] <;> iassumption

/-- Part 6: the reads of the `y` slots and of the slot a face from below lands in. -/
theorem part6_spec (c : Dev nD) (W : FVec F S16x16x16 .f32) (B : IVec S16x16x16 1) (z : F .f32) (V : FVec F S16x16x16 .f32)
    (Y0 Y1 : FVec F S16x1x16 .f32) (Z0 : FVec F S16x16x1 .f32) {Q : _ → sProp 𝕄} :
    iprop(owns (c : Thread nD τ) hy0 fullShare Y0 ∗ owns (c : Thread nD τ) hy1 fullShare Y1 ∗ owns (c : Thread nD τ) hz0 fullShare Z0)
      ⊢ iprop(((owns (c : Thread nD τ) hy0 fullShare Y0 ∗ owns (c : Thread nD τ) hy1 fullShare Y1 ∗ owns (c : Thread nD τ) hz0 fullShare Z0)
            -∗ Q ⟨k0_pay10 (wy c) (wDn c) io1 io2 W B z V (back_y Y0) (back_y Y1) (back_z Z0), k0_pay11⟩)
          -∗ wpc c (onBufs (k0_part6 (F := F)) (wy c) (wDn c) io1 io2 W B z V) Q) := by
  unfold onBufs
  rw [k0_part6_eq_skeleton]; unfold k0_part6_skel
  dsimp only
  iintro ⟨H0, H1, H2⟩ Hk
  iapply (wp_slot_now c (Memref.whole cc0_scratch5) (Rect.unit (s := S2x16x1x16) ![0, 0, 0, 0] S1x16x1x16.size inb_S2x16x1x16_S1x16x1x16_0_0_0_0) (fun _ => rfl)
      squeezes_S1x16x1x16_S16x1x16 (by decide) (by decide) (back_y Y0) rfl) $$ H0
  iintro H0
  iapply (wp_slot_now c (Memref.whole cc0_scratch5) (Rect.unit (s := S2x16x1x16) ![1, 0, 0, 0] S1x16x1x16.size inb_S2x16x1x16_S1x16x1x16_1_0_0_0) (fun _ => rfl)
      squeezes_S1x16x1x16_S16x1x16 (by decide) (by decide) (back_y Y1) rfl) $$ H1
  iintro H1
  iapply (wp_slot_now c (Memref.whole cc0_scratch6) (Rect.unit (s := S2x16x16x1) ![0, 0, 0, 0] S1x16x16x1.size inb_S2x16x16x1_S1x16x16x1_0_0_0_0) (fun _ => rfl)
      squeezes_S1x16x16x1_S16x16x1 (by decide) (by decide) (back_z Z0) rfl) $$ H2
  iintro H2
  iapply (wpc_ret c)
  iapply Hk
  isplitl [H0]; · iexact H0
  isplitl [H1] <;> iassumption

/-- Part 7: the read of the slot a face from above lands in. -/
theorem part7_spec (c : Dev nD) (V : FVec F S16x16x16 .f32) (B : IVec S16x16x16 32) (Z1 : FVec F S16x16x1 .f32) {Q : _ → sProp 𝕄} :
    owns (c : Thread nD τ) hz1 fullShare Z1
      ⊢ iprop((owns (c : Thread nD τ) hz1 fullShare Z1
            -∗ Q ⟨k0_pay12 (wUp c) io2 V B (back_z Z1), k0_pay13 (wx c) (wy c) (wz c) io0 io1 io2, k0_pay14 io2, k0_pay15 (wz c)⟩)
          -∗ wpc c (onBufs (k0_part7 (F := F)) (wx c) (wy c) (wz c) (wUp c) io0 io1 io2 V B) Q) := by
  unfold onBufs
  rw [k0_part7_eq_skeleton]; unfold k0_part7_skel
  dsimp only
  iintro H Hk
  iapply (wp_slot_now c (Memref.whole cc0_scratch6) (Rect.unit (s := S2x16x16x1) ![1, 0, 0, 0] S1x16x16x1.size inb_S2x16x16x1_S1x16x16x1_1_0_0_0) (fun _ => rfl)
      squeezes_S1x16x16x1_S16x16x1 (by decide) (by decide) (back_z Z1) rfl) $$ H
  iintro H
  iapply (wpc_ret c)
  iapply Hk; iexact H

/-! ## The whole body -/

/-- A semaphore of each direction at zero. -/
def zeros (c : Dev nD) : sProp 𝕄 := iprop(semVal (barC c) 0 ∗ (four fun d => semVal (sendC d c) 0) ∗ four fun d => semVal (recvC d c) 0)

theorem four_fupd (Φ Ψ : Dir → sProp 𝕄) (h : ∀ d, iprop(records m K ∗ Φ d) ⊢ (|={Set.univ}=> Ψ d)) : iprop(records m K ∗ four Φ) ⊢ (|={Set.univ}=> four Ψ) := by
  unfold four
  iintro ⟨#HR, Hx, Hy, Hu, Hd⟩
  imod (h .x) $$ [Hx] with Hx
  · isplitr; · iexact HR
    iexact Hx
  imod (h .y) $$ [Hy] with Hy
  · isplitr; · iexact HR
    iexact Hy
  imod (h .up) $$ [Hu] with Hu
  · isplitr; · iexact HR
    iexact Hu
  imod (h .dn) $$ [Hd] with Hd
  · isplitr; · iexact HR
    iexact Hd
  imodintro
  isplitl [Hx]; · iexact Hx
  isplitl [Hy]; · iexact Hy
  isplitl [Hu] <;> iassumption

/-- The nine cells closed. -/
theorem close_all (c : Dev nD) :
    iprop(records m K ∗ atPos ER (barC c) 1 ∅ 0 ∗ (four fun d => atPos ER (sendC d c) (rnd (has d c)) ∅ 0) ∗ four fun d => atPos ER (recvC d c) (rnd (has (opp d) c)) ∅ 0)
      ⊢ (|={Set.univ}=> zeros c : sProp 𝕄) := by
  unfold zeros
  iintro ⟨#HR, Hb, Hs, Hr⟩
  imod (close_bar m K c) $$ [Hb] with Hb
  · isplitr; · iexact HR
    iexact Hb
  imod (four_fupd m K _ (fun d => semVal (sendC d c) 0) (close_send m K c)) $$ [Hs] with Hs
  · isplitr; · iexact HR
    iexact Hs
  imod (four_fupd m K _ (fun d => semVal (recvC d c) 0) (close_recv m K c)) $$ [Hr] with Hr
  · isplitr; · iexact HR
    iexact Hr
  imodintro
  isplitl [Hb]; · iexact Hb
  isplitl [Hs] <;> iassumption

/-- The device's seven scratch buffers. -/
def scratch (c : Dev nD) : sProp 𝕄 :=
  iprop(bufAny c cc0_scratch0 ∗ bufAny c cc0_scratch1 ∗ bufAny c cc0_scratch2 ∗ bufAny c cc0_scratch3
    ∗ bufAny c cc0_scratch4 ∗ bufAny c cc0_scratch5 ∗ bufAny c cc0_scratch6)

/-- What the protocol gives a device: the records, its positions at its nine cells, and the tokens it pays with. -/
def ghost (c : Dev nD) : sProp 𝕄 :=
  iprop(records m K ∗ atPos ER (barC c) 0 ∅ 0 ∗ (four fun d => atPos ER (sendC d c) 0 ∅ 0) ∗ (four fun d => atPos ER (recvC d c) 0 ∅ 0)
    ∗ (four fun d => dutyTok ER (barC (nb d c)) 0 (opp d)) ∗ four fun d => sendTok d c)
/-- The credits it waits with. -/
def creds (c : Dev nD) : sProp 𝕄 :=
  iprop(cred (tallyAt (barC c) () (deg c)) ∗ four fun d => whn (has (opp d) c) (cred (tallyAt (recvC d c) () (N d))))

theorem src_any (c : Dev nD) (b : Ref sig .tc) {f : b.ty.Contents (Elt F)} : owns (c : Thread nD τ) (Memref.whole b) fullShare f ⊢ (bufAny c b : sProp 𝕄) := by
  rw [owns_whole]; unfold bufAny
  iintro H; iexists f; iexact H

theorem bufAny_eq (c : Dev nD) (b : Ref sig .tc) :
    (bufAny c b : sProp 𝕄) = iprop(∃ f : Buf (Elt F) ((c : Thread nD τ).loc b), ((c : Thread nD τ).loc b) ↦{fullShare} f) := rfl

theorem two_slots (c : Dev nD) {s : Shape} {e : EltTy} (M M' : Memref sig .tc .vmem s e) {X X' : s.Idx → Elt F e} :
    (iprop(owns (c : Thread nD τ) M fullShare X ∗ owns (c : Thread nD τ) M' fullShare X') : sProp 𝕄) ⊢ iprop(slotOn c M ∗ slotOn c M') := by
  unfold slotOn
  iintro ⟨H, H'⟩
  isplitl [H]; · iexists X; iexact H
  iexists X'; iexact H'

theorem wpc_fupd (c : Dev nD) {α : Type} {a : α} {Q : α → sProp 𝕄} : (|={Set.univ}=> Q a) ⊢ wpc c (.ret a) Q := by
  unfold wpc; rw [wp_ret]

/-- The body from start to end: the neighbours' faces are exchanged and the result stored; every buffer and every semaphore
    is back. -/
theorem body_wp (c : Dev nD) {Q : PUnit → sProp 𝕄} :
    iprop(ghost m K c ∗ creds c ∗ levAts L lv ∗ owesE c (O₀ c) ∗ uPts m c ∗ bufAny c cc0_stg1_0 ∗ scratch c)
      ⊢ iprop(((owesE c 0 ∗ uPts m c ∗ (((c : Thread nD τ).loc cc0_stg1_0) ↦{fullShare} outAt m c) ∗ scratch c ∗ zeros c) -∗ Q ⟨⟩)
        -∗ wpc c (onBufs (cc0_body (F := F))) Q) := by
  unfold onBufs
  rw [cc0_body_eq_skeleton]; unfold cc0_body_skel ghost creds scratch
  iintro ⟨⟨#HR, Hab, Has, Har, Htb, Hts⟩, ⟨Hcb, Hcr⟩, #HL, HO, Hu, Hout, Hb0, Hb1, Hb2, Hb3, Hb4, Hb5, Hb6⟩ Hk
  unfold four
  icases Has with ⟨Hasx, Hasy, Hasu, Hasd⟩
  icases Har with ⟨Harx, Hary, Haru, Hard⟩
  icases Htb with ⟨Htbx, Htby, Htbu, Htbd⟩
  icases Hts with ⟨Htsx, Htsy, Htsu, Htsd⟩
  icases Hcr with ⟨Hcrx, Hcry, Hcru, Hcrd⟩
  ihave Hx := (x_give c) $$ Hb4
  icases Hx with ⟨Hxo, Hxn⟩
  ihave Hy := (y_give c) $$ Hb5
  icases Hy with ⟨Hyo, Hyn⟩
  ihave Hz := (z_give c) $$ Hb6
  icases Hz with ⟨Hzu, Hzd⟩
  iapply (Entails.of_eq (wpc_bind c _ _ _).symm)
  iapply (part1_spec m K c) $$ [HO Htbx Htby Htbu Htbd Hxn Hyn Hzu Hzd]
  · isplitr; · iexact HR
    isplitl [HO]; · iexact HO
    isplitl [Htbx Htby Htbu Htbd]
    · isplitl [Htbx]; · iexact Htbx
      isplitl [Htby]; · iexact Htby
      isplitl [Htbu]; · iexact Htbu
      iexact Htbd
    isplitl [Hxn]; · iexact Hxn
    isplitl [Hyn]; · iexact Hyn
    isplitl [Hzd] <;> iassumption
  iintro ⟨HO, Hkd, Hku⟩
  iapply (Entails.of_eq (wpc_bind c _ _ _).symm)
  iapply (part2_spec m K c) $$ [HO Hcb Hab Hu Hb0 Hb1 Hb2 Hb3]
  · isplitr; · iexact HR
    isplitr; · iexact HL
    isplitl [HO Hcb Hab]
    · unfold barTodo
      isplitl [HO]; · iexact HO
      isplitl [Hcb] <;> iassumption
    isplitl [Hu]; · iexact Hu
    isplitl [Hb0]; · iexact Hb0
    isplitl [Hb1]; · iexact Hb1
    isplitl [Hb2] <;> iassumption
  iintro ⟨Hbar, Hu, Hsx, Hsy, Hsu, Hsd⟩
  iapply (Entails.of_eq (wpc_bind c _ _ _).symm)
  iapply (part3_spec m K c) $$ [Hbar Hsx Hsy Hsu Htsx Htsy Htsu]
  · isplitr; · iexact HR
    isplitr; · iexact HL
    isplitl [Hbar]; · iexact Hbar
    isplitl [Hsx]; · iexact Hsx
    isplitl [Hsy]; · iexact Hsy
    isplitl [Hsu]; · iexact Hsu
    isplitl [Htsx]; · iexact Htsx
    isplitl [Htsy] <;> iassumption
  iintro ⟨HO, Hab, Hcx, Hcy, Hcu, Hsu, Hgd⟩
  iapply (Entails.of_eq (wpc_bind c _ _ _).symm)
  iapply (part4_spec m K c) $$ [HO Hu Hsd Hgd Htsd Hcrx Harx]
  · isplitr; · iexact HR
    isplitl [HO]; · iexact HO
    isplitl [Hu]; · iexact Hu
    isplitl [Hsd]; · iexact Hsd
    isplitl [Hgd]; · iexact Hgd
    isplitl [Htsd]; · iexact Htsd
    isplitl [Hcrx]; · iapply (Entails.of_eq (whn_pos (show has (opp .x) c = true from rfl) _)); iexact Hcrx
    iexact Harx
  iintro ⟨HO, Hu, Hcd, Hsd, Harx, Hlx⟩
  ihave Hx := (x_landed m c) $$ [Hxo Hlx]
  · isplitl [Hxo] <;> iassumption
  icases Hx with ⟨%X0, %X1, %hX, Hx0, Hx1⟩
  iapply (Entails.of_eq (wpc_bind c _ _ _).symm)
  iapply (part5_spec m K c) $$ [HO Hcry Hary Hcru Haru Hcrd Hard Hx0 Hx1]
  · unfold landTodo
    isplitr; · iexact HR
    isplitl [HO]; · iexact HO
    isplitl [Hcry Hary]; · isplitl [Hcry] <;> iassumption
    isplitl [Hcru Haru]; · isplitl [Hcru] <;> iassumption
    isplitl [Hcrd Hard]; · isplitl [Hcrd] <;> iassumption
    isplitl [Hx0] <;> iassumption
  unfold landDone
  iintro ⟨HO, ⟨Hary, Hly⟩, ⟨Haru, Hlu⟩, ⟨Hard, Hld⟩, Hx0, Hx1⟩
  ihave Hy := (y_landed m c) $$ [Hyo Hly]
  · isplitl [Hyo]; · iexact Hyo
    iapply (Entails.of_eq (whn_pos (show has (opp .y) c = true from rfl) _)); iexact Hly
  icases Hy with ⟨%Y0, %Y1, %hY, Hy0, Hy1⟩
  ihave Hz := (z_landed m .up c) $$ [Hlu Hku]
  · isplitl [Hlu]; · iexact Hlu
    iexact Hku
  icases Hz with ⟨%Z0, %hU, Hz0⟩
  ihave Hz := (z_landed m .dn c) $$ [Hld Hkd]
  · isplitl [Hld]; · iexact Hld
    iexact Hkd
  icases Hz with ⟨%Z1, %hD, Hz1⟩
  iapply (Entails.of_eq (wpc_bind c _ _ _).symm)
  iapply (part6_spec c) $$ [Hy0 Hy1 Hz0]
  · isplitl [Hy0]; · iexact Hy0
    isplitl [Hy1] <;> iassumption
  iintro ⟨Hy0, Hy1, Hz0⟩
  iapply (Entails.of_eq (wpc_bind c _ _ _).symm)
  iapply (part7_spec c) $$ Hz1
  iintro Hz1
  ihave Hout := (Entails.of_eq (bufAny_eq c cc0_stg1_0)) $$ Hout
  iapply (wp_put c (M := Memref.whole cc0_stg1_0) (r := Rect.unit (s := S16x16x16) ![0, 0, 0] S16x16x16.size inb_S16x16x16_S16x16x16_0_0_0) (outAt m c)
      (fun f => (Memref.write_access_unit_zero_univ (Elt F) cc0_stg1_0 hz3 _ f _).trans (outV_eq c (ublk m c) _ X0 X1 _ Y0 Y1 _ _ Z0 Z1 hX hY hU hD))) $$ Hout
  iintro Hout
  iapply (wp_sent_now m K c .x rfl (b := src .x) rfl) $$ [HO Hcx Hasx]
  · isplitr; · iexact HR
    isplitl [HO]; · iexact HO
    isplitl [Hcx]; · iexact Hcx
    iexact Hasx
  iintro ⟨HO, Hasx, Hsx⟩
  iapply (wp_sent_now m K c .y rfl (b := src .y) rfl) $$ [HO Hcy Hasy]
  · isplitr; · iexact HR
    isplitl [HO]; · iexact HO
    isplitl [Hcy]; · iexact Hcy
    iexact Hasy
  iintro ⟨HO, Hasy, Hsy⟩
  iapply (wp_sent_if m K c .up _ (wUp_iff c) (b := src .up) rfl) $$ [HO Hcu Hasu]
  · isplitr; · iexact HR
    isplitl [HO]; · iexact HO
    isplitl [Hcu]; · iexact Hcu
    iexact Hasu
  iintro ⟨HO, Hasu, Hsu'⟩
  iapply (wp_sent_if m K c .dn _ (wDn_iff c) (b := src .dn) rfl) $$ [HO Hcd Hasd]
  · isplitr; · iexact HR
    isplitl [HO]; · iexact HO
    isplitl [Hcd]; · iexact Hcd
    iexact Hasd
  iintro ⟨HO, Hasd, Hsd'⟩
  ihave Hsu := (whn_join (has .up c) (srcPay m .up c)) $$ [Hsu Hsu']
  · isplitl [Hsu'] <;> iassumption
  ihave Hsd := (whn_join (has .dn c) (srcPay m .dn c)) $$ [Hsd Hsd']
  · isplitl [Hsd'] <;> iassumption
  iapply (wpc_fupd c)
  imod (close_all m K c) $$ [Hab Hasx Hasy Hasu Hasd Harx Hary Haru Hard] with Hz
  · unfold four
    isplitr; · iexact HR
    isplitl [Hab]; · iexact Hab
    isplitl [Hasx Hasy Hasu Hasd]
    · isplitl [Hasx]; · iapply (at_one (sendC .x c) rfl); iexact Hasx
      isplitl [Hasy]; · iapply (at_one (sendC .y c) rfl); iexact Hasy
      isplitl [Hasu]; · iexact Hasu
      iexact Hasd
    · isplitl [Harx]; · iapply (at_one (recvC .x c) rfl); iexact Harx
      isplitl [Hary]; · iexact Hary
      isplitl [Haru]; · iexact Haru
      iexact Hard
  imodintro
  iapply Hk
  isplitl [HO]; · iexact HO
  isplitl [Hu]; · iexact Hu
  isplitl [Hout]; · iexact Hout
  isplitr [Hz]; swap; · iexact Hz
  unfold srcPay
  isplitl [Hsx]; · iapply (src_any c cc0_scratch0); iexact Hsx
  isplitl [Hsy]; · iapply (src_any c cc0_scratch1); iexact Hsy
  isplitl [Hsd]; · iapply (src_any c cc0_scratch2); iexact Hsd
  isplitl [Hsu]; · iapply (src_any c cc0_scratch3); iexact Hsu
  isplitl [Hx0 Hx1]
  · iapply (hx_join c); iapply (two_slots c hx0 hx1); isplitl [Hx0] <;> iassumption
  isplitl [Hy0 Hy1]
  · iapply (hy_join c); iapply (two_slots c hy0 hy1); isplitl [Hy0] <;> iassumption
  iapply (hz_join c); iapply (two_slots c hz0 hz1); isplitl [Hz0]; · iexact Hz0
  iexact Hz1

end Cert.KernelIdeal.Halo

end
-- ==== Proof.LaunchIdeal.lean ====
/-
  The launch of the idealized kernel: the pipeline's proof data, the body's obligation, the protocol's cells and tokens
  made and dealt to the devices that use them, the launch's credit, and the run of the program.
-/
module

public import proofs.«01_k».proof.Proof.BodyIdeal
public import Idealize.ShloMosaic.Lib.Pipeline.CollectiveSegs

@[expose] public section

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's proof data -/

/-- What a device starts from besides its buffers: its part of the protocol, its credits, the order of waiting. -/
def start (c : Dev nD) : sProp 𝕄 := iprop((∃ K, ghost m K c) ∗ creds c ∗ levAts L lv)
def Φ₀ (c : Dev nD) : sProp 𝕄 := iprop(start m c ∗ scratch c)
/-- What it ends with: the scratch buffers, and every semaphore at zero. -/
def Φ₁ (c : Dev nD) : sProp 𝕄 := iprop(scratch c ∗ zeros c)

def dats (_ : Fin 1) (c : Dev nD) : Dat τ (Elt F) Unit ℕ UU ℕ cfg0 c where
  A w := V m c (Pipeline.arrRef spec0 w)
  after w _ := match w with
    | ⟨0, _⟩ => ublk m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

/-- A whole buffer owned at `X`. -/
theorem whole_owns (c : Dev nD) (b : Ref sig .tc) (X : b.ty.Contents (Elt F)) :
    (owns (Ix := Unit) (Name := ℕ) (U := UU) (Lvl := ℕ) (c : Thread nD τ) (Memref.whole b) fullShare X : sProp 𝕄)
      = iprop(((c : Thread nD τ).loc b) ↦{fullShare} X) := owns_whole (c : Thread nD τ) b fullShare X

/-! ## The body's obligation -/

set_option maxRecDepth 4000 in
theorem body_obligation (c : Dev nD) : BodyObligation (dats (F := F) m 0 c) (defs₀ (F := F)) 𝒱₀ () Set.univ := fun t => by
  rw [fin_N0 t, bigSep_W0, bigSep_W0]
  show iprop(Φ₀ m c ∗ (dats m 0 c).owesAt () t0_0.castSucc
      ∗ (∃ d, owns (c : Thread nD τ) (Memref.whole cc0_stg0_0) fullShare ((dats m 0 c).before (0 : Fin 2) t0_0 d))
      ∗ (∃ d, owns (c : Thread nD τ) (Memref.whole cc0_stg1_0) fullShare ((dats m 0 c).before (1 : Fin 2) t0_0 d)))
    ⊢ wpc c (onBufs (cc0_body (F := F))) (fun _ => iprop(Φ₁ c ∗ (dats m 0 c).owesAt () t0_0.succ
      ∗ owns (c : Thread nD τ) (Memref.whole cc0_stg0_0) fullShare (ublk m c) ∗ owns (c : Thread nD τ) (Memref.whole cc0_stg1_0) fullShare (outAt m c)))
  simp only [whole_owns]
  have hbefore : ∀ d, (dats m 0 c).before (0 : Fin 2) t0_0 d = ublk m c := fun d => by unfold Dat.before; rw [if_pos (fetch0_0 t0_0)]; rfl
  simp only [hbefore]
  unfold Φ₀ start Dat.owesAt Pipeline.owesWithin
  rw [show (dats m 0 c).owed t0_0.castSucc = O₀ c from rfl, show (dats m 0 c).owed t0_0.succ = 0 from rfl]
  iintro ⟨⟨⟨⟨%K, Hg⟩, Hc, HL⟩, Hs⟩, ⟨%W, -, HO⟩, ⟨%d0, Hu⟩, ⟨%d1, Ho⟩⟩
  iapply (body_wp m K c) $$ [Hg Hc HL Hs HO Hu Ho]
  · isplitl [Hg]; · iexact Hg
    isplitl [Hc]; · iexact Hc
    isplitl [HL]; · iexact HL
    isplitl [HO]
    · unfold owesE; iexists W; iexact HO
    isplitl [Hu]
    · unfold uPts; iexact Hu
    isplitl [Ho]
    · iapply (Entails.of_eq (bufAny_eq c cc0_stg1_0).symm); iexists _; iexact Ho
    iexact Hs
  unfold owesE uPts Φ₁
  iintro ⟨⟨%W', HO⟩, Hu, Ho, Hs, Hz⟩
  isplitl [Hs Hz]
  · isplitl [Hs] <;> iassumption
  isplitl [HO]
  · iexists W'; isplitr; · ipureintro; exact fun _ _ => Or.inl trivial
    iexact HO
  isplitl [Hu] <;> iassumption

/-! ## Cells and tokens -/

/-- The kernel's own semaphores: the sends', then the receives'. -/
abbrev osem : Fin 8 → SemLoc sig
  | 0 => .dma (sendS .x) | 1 => .dma (sendS .y) | 2 => .dma (sendS .up) | 3 => .dma (sendS .dn)
  | 4 => .dma (recvS .x) | 5 => .dma (recvS .y) | 6 => .dma (recvS .up) | 7 => .dma (recvS .dn)
theorem ownSemFacts : Pipeline.OwnSemFacts cfg0.spec osem := by decide

theorem share_eq (c : Dev nD) (w : Fin cfg0.W) : (dats m 0 c).share w = fullShare := by unfold Dat.share; split <;> rfl

theorem csem_inj : ∀ k k' : Cell, csem k = csem k' → k = k' := by decide +kernel
theorem kcell_injective : Function.Injective (kcell : Dev nD × Cell → GSem nD τ sig) := by
  rintro ⟨c, k⟩ ⟨c', k'⟩ h
  have h1 : c = c' := congrArg (fun g : GSem nD τ sig => g.1.1) h
  rw [h1, csem_inj k k' (congrArg Prod.snd h)]
def cellSet : Finset (GSem nD τ sig) := Finset.univ.map ⟨kcell, kcell_injective⟩

/-- The duty tokens of a device's own cells: per direction its barrier's, its send's and its receive's. -/
abbrev tokSem : Dir × Fin 3 → SemLoc sig
  | (_, 0) => .reg barS
  | (d, 1) => .dma (sendS d)
  | (d, 2) => .dma (recvS d)
theorem tokSem_inj : ∀ j j' : Dir × Fin 3, tokSem j = tokSem j' → j.1 = j'.1 → j = j' := by decide +kernel
abbrev tokOf (cj : Dev nD × Dir × Fin 3) : GSem nD τ sig × ℕ × Dir := (((cj.1 : Thread nD τ), tokSem cj.2), 0, cj.2.1)
theorem tokOf_injective : Function.Injective tokOf := by
  rintro ⟨c, j⟩ ⟨c', j'⟩ h
  have h1 : c = c' := congrArg (fun x : GSem nD τ sig × ℕ × Dir => x.1.1.1) h
  rw [h1, tokSem_inj j j' (congrArg (fun x : GSem nD τ sig × ℕ × Dir => x.1.2) h) (congrArg (fun x : GSem nD τ sig × ℕ × Dir => x.2.2) h)]
def tokSet : Finset (GSem nD τ sig × ℕ × Dir) := Finset.univ.map ⟨tokOf, tokOf_injective⟩

/-- The protocol's initial element, beside the pipeline's. -/
def u₀ : UU := (initOf (Pipeline.cells cfgs cellOf_inj) (Pipeline.launchToks cfgs cellOf_inj), initOf cellSet tokSet)

/-- The tokens of a device's own cells. -/
def toks (c : Dev nD) : sProp 𝕄 :=
  iprop((four fun d => dutyTok ER (barC c) 0 d) ∗ (four fun d => dutyTok ER (sendC d c) 0 d) ∗ four fun d => dutyTok ER (recvC d c) 0 d)

def G (c : Dev nD) : sProp 𝕄 :=
  iprop((bigSep Finset.univ fun k : Cell => roundState ER (sched m) (kcell (c, k)) 0)
    ∗ (bigSep Finset.univ fun k : Cell => iprop(atPos ER (kcell (c, k)) 0 ∅ 0 ∗ reached ER (kcell (c, k)) 0)) ∗ toks c)
def G' (c : Dev nD) : sProp 𝕄 := iprop(∃ K, ghost m K c)

theorem four_sep (Φ Ψ : Dir → sProp 𝕄) : (four fun d => iprop(Φ d ∗ Ψ d)) = iprop(four Φ ∗ four Ψ) := by
  rw [← bigSep_four, ← bigSep_four, ← bigSep_four, bigSep_sep']

/-- A conjunction over the cells of a device, by kind. -/
theorem bigSep_cell (Φ : Cell → sProp 𝕄) :
    bigSep Finset.univ Φ ⊣⊢ iprop(Φ none ∗ (four fun d => Φ (some (false, d))) ∗ four fun d => Φ (some (true, d))) := by
  rw [bigSep_univ_eq_bigSepL [none, some (false, Dir.x), some (false, Dir.y), some (false, Dir.up), some (false, Dir.dn),
    some (true, Dir.x), some (true, Dir.y), some (true, Dir.up), some (true, Dir.dn)] (by decide) (by decide) Φ]
  show iprop(Φ none ∗ Φ (some (false, .x)) ∗ Φ (some (false, .y)) ∗ Φ (some (false, .up)) ∗ Φ (some (false, .dn))
    ∗ Φ (some (true, .x)) ∗ Φ (some (true, .y)) ∗ Φ (some (true, .up)) ∗ Φ (some (true, .dn))) ⊣⊢ _
  unfold four
  constructor
  · iintro ⟨H0, H1, H2, H3, H4, H5⟩
    isplitl [H0]; · iexact H0
    isplitl [H1 H2 H3 H4]
    · isplitl [H1]; · iexact H1
      isplitl [H2]; · iexact H2
      isplitl [H3] <;> iassumption
    iexact H5
  · iintro ⟨H0, ⟨H1, H2, H3, H4⟩, H5⟩
    isplitl [H0]; · iexact H0
    isplitl [H1]; · iexact H1
    isplitl [H2]; · iexact H2
    isplitl [H3]; · iexact H3
    isplitl [H4] <;> iassumption

theorem bigSep_kind (Φ : Fin 3 → sProp 𝕄) : bigSep Finset.univ Φ = iprop(Φ 0 ∗ Φ 1 ∗ Φ 2) := bigSep_univ_eq_bigSepL [0, 1, 2] (by decide) (by decide) Φ

theorem fund_cells : BI.own (ER (initOf cellSet tokSet)) ⊢ (|==> bigSep Finset.univ (G m) : sProp 𝕄) := by
  have hX (Φ : GSem nD τ sig → sProp 𝕄) : bigSep cellSet Φ = bigSep Finset.univ fun c : Dev nD => bigSep Finset.univ fun k : Cell => Φ (kcell (c, k)) := by
    unfold cellSet; rw [bigSep_map, bigSep_univ_prod]; rfl
  have hT : bigSep tokSet (fun x => (dutyTok ER x.1 x.2.1 x.2.2 : sProp 𝕄)) = bigSep Finset.univ fun c : Dev nD => toks c := by
    unfold tokSet; rw [bigSep_map, bigSep_univ_prod]
    refine bigSep_congr fun c _ => ?_
    rw [bigSep_univ_prod, bigSep_congr (s := Finset.univ) (fun (d : Dir) _ => bigSep_kind _), bigSep_sep', bigSep_sep', bigSep_four, bigSep_four, bigSep_four]
    rfl
  iintro HX
  imod (Rounds.fund ER (sched m) cellSet tokSet) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The invariants, made for every device at once -/

theorem ownSems0_eq (c : Dev nD) : (Pipeline.ownSems0 (Ix := Unit) (Name := ℕ) (U := UU) (Lvl := ℕ) (Val := Elt F) (τ := τ) osem c : sProp 𝕄)
    = iprop(semVal (sendC .x c) 0 ∗ semVal (sendC .y c) 0 ∗ semVal (sendC .up c) 0 ∗ semVal (sendC .dn c) 0 ∗ four fun d => semVal (recvC d c) 0) := by
  rw [Pipeline.ownSems0_eq_of_list c osem [0, 1, 2, 3, 4, 5, 6, 7] (by decide) (by decide)]; rfl
theorem unscopedSems0_eq (c : Dev nD) : (unscopedSems0 c : sProp 𝕄) = semVal (barC c) 0 := by
  unfold unscopedSems0; rw [bigSep_eq_bigSepL_of_eq [SemLoc.reg barS] (by decide) (by decide)]; rfl

/-- The semaphores a device has at launch are its cells, and the other way round. -/
theorem zeros_eq (c : Dev nD) :
    (zeros c : sProp 𝕄) ⊣⊢ iprop(unscopedSems0 c ∗ Pipeline.ownSems0 (Ix := Unit) (Name := ℕ) (U := UU) (Lvl := ℕ) (Val := Elt F) (τ := τ) osem c) := by
  rw [ownSems0_eq, unscopedSems0_eq]; unfold zeros
  rw [show (four fun d => semVal (sendC d c) 0 : sProp 𝕄) = iprop(semVal (sendC .x c) 0 ∗ semVal (sendC .y c) 0 ∗ semVal (sendC .up c) 0 ∗ semVal (sendC .dn c) 0) from rfl]
  constructor
  · iintro ⟨H0, ⟨H1, H2, H3, H4⟩, H5⟩
    isplitl [H0]; · iexact H0
    isplitl [H1]; · iexact H1
    isplitl [H2]; · iexact H2
    isplitl [H3]; · iexact H3
    isplitl [H4] <;> iassumption
  · iintro ⟨H0, H1, H2, H3, H4, H5⟩
    isplitl [H0]; · iexact H0
    isplitl [H1 H2 H3 H4]
    · isplitl [H1]; · iexact H1
      isplitl [H2]; · iexact H2
      isplitl [H3] <;> iassumption
    iexact H5

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Cell => iprop(∃ κ : ℕ, cellInv ER (sched m) κ (kcell (c, k))))
          ∗ (bigSep Finset.univ fun k : Cell => iprop(atPos ER (kcell (c, k)) 0 ∅ 0 ∗ reached ER (kcell (c, k)) 0)) ∗ toks c) := by
  unfold G
  iintro ⟨Hos, Hus, Hst, Hat, Htok⟩
  ihave Hz := (zeros_eq (F := F) c).2 $$ [Hos Hus]
  · isplitl [Hus] <;> iassumption
  ihave Hv := (show (zeros c : sProp 𝕄) ⊢ bigSep Finset.univ fun k : Cell => semVal (kcell (c, k)) 0 from (bigSep_cell fun k : Cell => semVal (kcell (c, k)) 0).2) $$ Hz
  imod (show iprop((bigSep Finset.univ fun k : Cell => semVal (kcell (c, k)) 0) ∗ bigSep Finset.univ fun k : Cell => roundState ER (sched m) (kcell (c, k)) 0)
      ⊢ (|={Set.univ}=> bigSep Finset.univ fun k : Cell => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat] <;> iassumption

/-- What is a device's alone: its places in the rounds, and the tokens of the duties it pays. -/
def places (c : Dev nD) : sProp 𝕄 :=
  iprop(atPos ER (barC c) 0 ∅ 0 ∗ (four fun d => atPos ER (sendC d c) 0 ∅ 0) ∗ four fun d => atPos ER (recvC d c) 0 ∅ 0)
def payToks (c : Dev nD) : sProp 𝕄 :=
  iprop((four fun d => dutyTok ER (barC (nb d c)) 0 (opp d)) ∗ (four fun d => dutyTok ER (sendC d c) 0 d) ∗ four fun d => dutyTok ER (recvC d (nb d c)) 0 d)

theorem ghost_intro (K : Dev nD × Cell → ℕ) (c : Dev nD) : iprop(records m K ∗ places c ∗ payToks c) ⊢ G' m c := by
  unfold places payToks G' ghost sendTok
  rw [four_sep]
  iintro ⟨HR, ⟨Ha, Hb, Hc⟩, Ht, Hts⟩
  iexists K
  isplitl [HR]; · iexact HR
  isplitl [Ha]; · iexact Ha
  isplitl [Hb]; · iexact Hb
  isplitl [Hc]; · iexact Hc
  isplitl [Ht] <;> iassumption

/-- Tokens handed one step on: device `c` gets the one its neighbour in direction `d` had. -/
theorem shift (d : Dir) (Φ : Dev nD → sProp 𝕄) : bigSep Finset.univ Φ = bigSep Finset.univ fun c => Φ (nb d c) := bigSep_univ_equiv (step d) Φ

theorem four_devs (Φ : Dir → Dev nD → sProp 𝕄) :
    (bigSep Finset.univ fun c : Dev nD => four fun d => Φ d c) = four fun d => bigSep Finset.univ fun c : Dev nD => Φ d c := by
  unfold four; rw [bigSep_sep', bigSep_sep', bigSep_sep']

theorem toks_dealt : (bigSep Finset.univ fun c : Dev nD => (toks c : sProp 𝕄)) ⊢ bigSep Finset.univ fun c : Dev nD => payToks c := by
  unfold toks payToks
  simp only [bigSep_sep', four_devs]
  refine BIClass.sep_mono ?_ (BIClass.sep_mono (Entails.of_eq rfl) (Entails.of_eq (congrArg four (funext fun d => shift d _))))
  unfold four
  beta_reduce
  rw [shift .x (fun c => dutyTok ER (barC c) 0 Dir.x), shift .y (fun c => dutyTok ER (barC c) 0 Dir.y),
    shift .dn (fun c => dutyTok ER (barC c) 0 Dir.up), shift .up (fun c => dutyTok ER (barC c) 0 Dir.dn)]
  iintro ⟨H1, H2, H3, H4⟩
  isplitl [H1]; · iexact H1
  isplitl [H2]; · iexact H2
  isplitl [H4]; · iexact H4
  iexact H3

theorem regroup :
    (bigSep Finset.univ fun c : Dev nD => iprop((bigSep Finset.univ fun k : Cell => iprop(∃ κ : ℕ, cellInv ER (sched m) κ (kcell (c, k))))
          ∗ (bigSep Finset.univ fun k : Cell => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Cell => iprop(∃ κ : ℕ, cellInv ER (sched m) κ (kcell ck))),
    bigSep_congr (s := Finset.univ) (fun (c : Dev nD) _ => bigSep_sep' Finset.univ (fun k : Cell => (atPos ER (kcell (c, k)) 0 ∅ 0 : sProp 𝕄)) (fun k => reached ER (kcell (c, k)) 0)),
    bigSep_sep', ← bigSep_univ_prod (fun ck : Dev nD × Cell => (reached ER (kcell ck) 0 : sProp 𝕄))]
  iintro ⟨HI, ⟨Hat, HR⟩, Htok⟩
  ihave HK := (BI.bigSep_exists_pi Finset.univ (fun (ck : Dev nD × Cell) (κ : ℕ) => (cellInv ER (sched m) κ (kcell ck) : sProp 𝕄))) $$ HI
  icases HK with ⟨%K, HI⟩
  ihave Htk := (toks_dealt (F := F)) $$ Htok
  ihave Hrec := (show iprop((bigSep Finset.univ fun ck : Dev nD × Cell => cellInv ER (sched m) (K ck) (kcell ck))
      ∗ bigSep Finset.univ fun ck : Dev nD × Cell => reached ER (kcell ck) 0) ⊢ bigSep Finset.univ fun _ : Dev nD => records m K from
        BI.bigSep_of_persistent Finset.univ (records m K)) $$ [HI HR]
  · isplitl [HI] <;> iassumption
  ihave Hpl := (show (bigSep Finset.univ fun c : Dev nD => bigSep Finset.univ fun k : Cell => (atPos ER (kcell (c, k)) 0 ∅ 0 : sProp 𝕄))
      ⊢ bigSep Finset.univ fun c : Dev nD => places c from bigSep_mono fun c _ => (bigSep_cell _).1) $$ Hat
  iapply (show (iprop((bigSep Finset.univ fun _ : Dev nD => records m K) ∗ (bigSep Finset.univ fun c : Dev nD => places c) ∗ bigSep Finset.univ fun c : Dev nD => payToks c) : sProp 𝕄)
      ⊢ bigSep Finset.univ (G' m) from by
    rw [← bigSep_sep', ← bigSep_sep']; exact bigSep_mono fun c _ => ghost_intro m K c)
  isplitl [Hrec]; · iexact Hrec
  isplitl [Hpl] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch's credit -/

theorem bar_eq_iff {a b : Dev nD} : barC a = barC b ↔ a = b := ⟨fun h => congrArg (fun g : GSem nD τ sig => g.1.1) h, fun h => h ▸ rfl⟩
theorem recv_eq_iff {d e : Dir} {a b : Dev nD} : recvC d a = recvC e b ↔ d = e ∧ a = b :=
  ⟨fun h => ⟨(recvS_inj d e).mp (SemLoc.dma.inj (congrArg Prod.snd h)), congrArg (fun g : GSem nD τ sig => g.1.1) h⟩, fun h => by rw [h.1, h.2]⟩
theorem recv_ne_barC (d : Dir) (a b : Dev nD) : recvC d a ≠ barC b := fun h => recv_ne_bar d (congrArg Prod.snd h)

/-- What device `e` owes the cells of device `c` for direction `d`: the barrier a unit and the receive semaphore its credit, if
    `e` is one step before `c` and there is such a step. -/
theorem bOwe_bar (d : Dir) (e c : Dev nD) : bOwe d e (barC c) () = if e = nb (opp d) c then (if has (opp d) c = true then 1 else 0) else 0 := by
  unfold bOwe
  by_cases h : e = nb (opp d) c
  · rw [if_pos h, h, has_nb', nb_opp']; split
    · rw [tallyAt_apply, if_pos ⟨rfl, rfl⟩]
    · rfl
  · rw [if_neg h]; split
    · rw [tallyAt_apply, if_neg fun h' => h (nb_eq_iff.mp (bar_eq_iff.mp h'.1).symm)]
    · rfl
theorem rOwe_recv (d d' : Dir) (e c : Dev nD) :
    rOwe d' e (recvC d c) () = if e = nb (opp d) c then (if d' = d ∧ has (opp d) c = true then N d else 0) else 0 := by
  unfold rOwe
  by_cases hd : d' = d
  · subst hd
    by_cases h : e = nb (opp d') c
    · rw [if_pos h, h, has_nb', nb_opp']; split
      · rename_i h'; rw [tallyAt_apply, if_pos ⟨rfl, rfl⟩, if_pos ⟨rfl, h'⟩]
      · rename_i h'; rw [if_neg fun h'' => h' h''.2]; rfl
    · rw [if_neg h]; split
      · rw [tallyAt_apply, if_neg fun h' => h (nb_eq_iff.mp (recv_eq_iff.mp h'.1).2.symm)]
      · rfl
  · rw [if_neg (c := d' = d ∧ has (opp d) c = true) fun h => hd h.1, ite_self]; split
    · rw [tallyAt_apply, if_neg fun h' => hd (recv_eq_iff.mp h'.1).1.symm]
    · rfl
theorem bOwe_recv (d d' : Dir) (e c : Dev nD) : bOwe d' e (recvC d c) () = 0 := by
  by_contra h; exact recv_ne_barC _ _ _ (bOwe_pos (Nat.pos_of_ne_zero h))
theorem rOwe_bar (d' : Dir) (e c : Dev nD) : rOwe d' e (barC c) () = 0 := by
  by_contra h; exact recv_ne_barC _ _ _ (rOwe_pos (Nat.pos_of_ne_zero h)).symm

/-- Everything a device owes at a cell, direction by direction. -/
theorem O₀_at (e : Dev nD) (g : GSem nD τ sig) : O₀ e g () = ∑ d : Dir, (rOwe d e g () + bOwe d e g ()) := by
  rw [show (Finset.univ : Finset Dir) = {.x, .y, .up, .dn} from rfl, Finset.sum_insert (by decide), Finset.sum_insert (by decide), Finset.sum_insert (by decide), Finset.sum_singleton]
  unfold O₀ oX oY oUp oDn
  simp only [Pi.add_apply, Finsupp.add_apply, Pi.zero_apply, Finsupp.coe_zero]
  omega

theorem owed_bar (c : Dev nD) : ∑ e : Dev nD, O₀ e (barC c) () = deg c := by
  simp only [O₀_at, rOwe_bar, bOwe_bar, Nat.zero_add]
  rw [Finset.sum_comm]
  simp only [Finset.sum_ite_eq', Finset.mem_univ, if_true]
  revert c; decide +kernel
theorem owed_recv (d : Dir) (c : Dev nD) : ∑ e : Dev nD, O₀ e (recvC d c) () = if has (opp d) c = true then N d else 0 := by
  simp only [O₀_at, bOwe_recv, rOwe_recv, Nat.add_zero]
  rw [Finset.sum_comm]
  simp only [Finset.sum_ite_eq', Finset.mem_univ, if_true, ite_and]

theorem credit_bar (c : Dev nD) : tallyOn (barC c) (launchCredit (Pipeline.owing O₀) 0 (barC c)) = (tallyAt (barC c) () (deg c) : CellTallies nD τ sig Unit) := by
  unfold tallyAt; refine congrArg _ (Finsupp.ext fun u => ?_); cases u
  rw [Pipeline.launchCredit_owing, Finsupp.single_eq_same, owed_bar]
theorem credit_recv (d : Dir) (c : Dev nD) (h : has (opp d) c = true) :
    tallyOn (recvC d c) (launchCredit (Pipeline.owing O₀) 0 (recvC d c)) = (tallyAt (recvC d c) () (N d) : CellTallies nD τ sig Unit) := by
  unfold tallyAt; refine congrArg _ (Finsupp.ext fun u => ?_); cases u
  rw [Pipeline.launchCredit_owing, Finsupp.single_eq_same, owed_recv, if_pos h]

theorem creds_intro (c : Dev nD) : (Pipeline.launchCred O₀ c : sProp 𝕄) ⊢ creds c := by
  unfold Pipeline.launchCred creds
  rw [bigSep_univ_at _ (SemLoc.reg barS), credit_bar]
  refine sep_mono_right ?_
  rw [← bigSep_four]
  have hsub : (Finset.univ.map ⟨fun d : Dir => (SemLoc.dma (recvS d) : SemLoc sig), fun d e h => (recvS_inj d e).mp (SemLoc.dma.inj h)⟩)
      ⊆ Finset.univ.erase (SemLoc.reg barS) := fun x hx => by
    obtain ⟨d, -, rfl⟩ := Finset.mem_map.mp hx
    exact Finset.mem_erase.mpr ⟨recv_ne_bar d, Finset.mem_univ _⟩
  refine BIBase.Entails.trans (bigSep_subset hsub) ?_
  rw [bigSep_map]
  refine bigSep_mono fun d _ => ?_
  show (cred (tallyOn (recvC d c) (launchCredit (Pipeline.owing O₀) 0 (recvC d c))) : sProp 𝕄) ⊢ whn (has (opp d) c) (cred (tallyAt (recvC d c) () (N d)))
  cases h : has (opp d) c
  · rw [whn_neg rfl]; iintro -; iempintro
  · rw [whn_pos rfl, credit_recv d c h]

/-! ## The sides of the launch -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, HL, Hc, -, HG⟩
  ihave Hc' := (creds_intro (F := F) c) $$ Hc
  imodintro
  unfold start G'
  isplitl
  · isplitl [HG]; · iexact HG
    isplitl [Hc'] <;> iassumption
  · iempintro

theorem scratch_eq (c : Dev nD) : (Pipeline.scopedRest cfg0.spec c : sProp 𝕄) = scratch c := by rw [scopedRest0_eq]; rfl

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scratch_eq]
  unfold Φ₀
  iintro ⟨Hs, -, Hr⟩
  isplitl [Hs] <;> iassumption

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scratch_eq]
  unfold Φ₁
  iintro ⟨Hr, Hz⟩
  ihave Hz' := (zeros_eq (F := F) c).1 $$ Hz
  icases Hz' with ⟨Hb, Ho⟩
  isplitl [Hb]; · iexact Hb
  isplitl [Ho] <;> iassumption

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

/-- What a window's array holds after the run. -/
def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- From any memory with zero counters every execution of the program on the sixteen devices ends, each window's array at the
    contents the proof data says, and every semaphore counter at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument array ends as it started. -/
theorem finalA_u (c : Dev nD) : finalA m c (0 : Fin 2) = m ((c : Thread nD τ).loc main_arg0) := (dats (F := F) m 0 c).arrAt_in (0 : Fin 2) rfl _

/-- The run with the argument unchanged and every semaphore at zero. -/
theorem run_quiescent : θ_run (defs (F := F)) (onTc (τ := τ) (main (F := F))) ⟨m, fun _ => 0, ρ⟩ (fun r =>
    (∀ c : Dev nD, r.2.mem ((c.tc : Thread nD τ).loc main_arg0) = m ((c.tc : Thread nD τ).loc main_arg0)) ∧ r.2.sem = fun _ => 0) :=
  (θ_run defs _ _).mono (fun _ h => ⟨fun c => (h.1 c 0).trans (finalA_u m c), h.2⟩) (run_main m ρ)

end Cert.KernelIdeal.Halo

end
-- ==== Proof.Stencil.lean ====
/-
  The seven-point stencil on the whole array, and the reference's result read at a point.

  A point of the array is named by three natural numbers (`at3`), so that a neighbour is one more or one less. The reference
  writes the stencil as sums of shifted slices of the interior, padded with zeros: `result_apply` says that is `stencil`.
-/
module

public import proofs.«01_k».proof.Proof.Gen.ReferenceIdeal.Run
public import Idealize.ShloMosaic.Lib.Pointwise
public import Idealize.ShloMosaic.Lib.Layout

@[expose] public section

noncomputable section

namespace Cert.ReferenceIdeal.Stencil

open Cert.ReferenceIdeal Cert.ReferenceIdeal.Gen
open Idealize.ShloMosaic
open Idealize.ShloMosaic.TcCoe
open Idealize.SL.Sem

/-- The array at a point, zero outside it. -/
def at3 (w : S32x32x64.Idx → EReal) (a b d : Nat) : EReal :=
  if h : a < 32 ∧ b < 32 ∧ d < 64 then w (ix3 ⟨a, h.1⟩ ⟨b, h.2.1⟩ ⟨d, h.2.2⟩) else 0

theorem at3_ix3 (w : S32x32x64.Idx → EReal) (a b : Fin 32) (d : Fin 64) : w (ix3 a b d) = at3 w a.val b.val d.val := by
  unfold at3
  rw [dif_pos ⟨a.isLt, b.isLt, d.isLt⟩]

/-- Six, as both programs spell it. -/
abbrev six : EReal := Ideal.ofBits FTy.f32 0x40C00000#32

/-- The point is not on the boundary of the array. -/
abbrev Inside (a b d : Nat) : Prop := (1 ≤ a ∧ a < 31) ∧ (1 ≤ b ∧ b < 31) ∧ 1 ≤ d ∧ d < 63

/-- The stencil: the six neighbours' sum less six times the point, zero on the boundary. -/
def stencil (w : S32x32x64.Idx → EReal) (a b d : Nat) : EReal :=
  if Inside a b d then
    at3 w (a - 1) b d + at3 w (a + 1) b d + at3 w a (b - 1) d + at3 w a (b + 1) d + at3 w a b (d - 1) + at3 w a b (d + 1) - six * at3 w a b d
  else 0

/-- What the reference computes of an array. -/
def result (w : FVec Ideal S32x32x64 .f32) : FVec Ideal S32x32x64 .f32 :=
  pad S32x32x64 ![1, 1, 1] ![1, 1, 1] ![0, 0, 0]
    (subf (addf (addf (addf (addf (addf (extractStridedSlice S30x30x62 ![0, 1, 1] w slices_S32x32x64_S30x30x62_0_1_1) (extractStridedSlice S30x30x62 ![2, 1, 1] w slices_S32x32x64_S30x30x62_2_1_1)) (extractStridedSlice S30x30x62 ![1, 0, 1] w slices_S32x32x64_S30x30x62_1_0_1)) (extractStridedSlice S30x30x62 ![1, 2, 1] w slices_S32x32x64_S30x30x62_1_2_1)) (extractStridedSlice S30x30x62 ![1, 1, 0] w slices_S32x32x64_S30x30x62_1_1_0)) (extractStridedSlice S30x30x62 ![1, 1, 2] w slices_S32x32x64_S30x30x62_1_1_2))
      (mulf (broadcastInDim S30x30x62 ![] bcast_S_S30x30x62 (constant S_ .f32 0x40C00000#32)) (extractStridedSlice S30x30x62 ![1, 1, 1] w slices_S32x32x64_S30x30x62_1_1_1)))
    (sitofp .f32 (constantI S_ 32 0#32)) pads_S30x30x62_S32x32x64_110_110_110 h_S_

theorem pad_zero : FloatOps.sitofp (F := Ideal) FTy.f32 0#32 = (0 : EReal) := by
  show (((0#32 : BitVec 32).toInt : ℝ) : EReal) = 0
  simp

/-- The reference's result at a point is the stencil there. -/
theorem result_apply (w : FVec Ideal S32x32x64 .f32) (a b : Fin 32) (d : Fin 64) :
    result w (ix3 a b d) = stencil w a.val b.val d.val := by
  have ha := a.isLt
  have hb := b.isLt
  have hd := d.isLt
  unfold stencil
  pointwise [result]
  by_cases h : Inside a.val b.val d.val
  · rw [dif_pos (by omega), if_pos h]
    simp only [at3_ix3]
    rw [show 1 + (a.val - 1) = a.val by omega, show 2 + (a.val - 1) = a.val + 1 by omega, show 1 + (b.val - 1) = b.val by omega,
      show 2 + (b.val - 1) = b.val + 1 by omega, show 1 + (d.val - 1) = d.val by omega, show 2 + (d.val - 1) = d.val + 1 by omega]
  · rw [dif_neg (by omega), if_neg h, pad_zero]

/-- The reference's run: its result array ends holding `result` of its argument, which ends unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r =>
      r.2.mem (((0 : Dev nD).tc : Thread nD τ).loc main_v15) = result (m (((0 : Dev nD).tc : Thread nD τ).loc main_arg0))
      ∧ r.2.mem (((0 : Dev nD).tc : Thread nD τ).loc main_arg0) = m (((0 : Dev nD).tc : Thread nD τ).loc main_arg0)) :=
  (θ_run defs _ _).mono (fun _ h => h 0) (Value.run m ρ)

end Cert.ReferenceIdeal.Stencil

end
-- ==== Proof.ValueIdeal.lean ====
/-
  What the idealized kernel computes: every device ends with its block of the stencil of the whole array.

  A device's value at a point of its block is read as a sum of conditionals (`outV_apply`). Along each axis one term comes
  from the block itself and one from a neighbour's face; exactly one of them is there, and it is the neighbouring point of
  the whole array (`below`, `above`). On the boundary of the whole array both programs give zero.
-/
module

public import proofs.«01_k».proof.Proof.LaunchIdeal
public import proofs.«01_k».proof.Proof.Stencil
public import Idealize.ShloMosaic.Lib.Pipeline.ValueKit

@[expose] public section

noncomputable section

namespace Cert.KernelIdeal.Halo

open Cert.KernelIdeal Cert.KernelIdeal.Gen
open Idealize.ShloMosaic
open Idealize.ShloMosaic.TcCoe
open Idealize.SL.Sem
open Cert.ReferenceIdeal.Stencil (at3 at3_ix3 six Inside stencil)

variable (m : (ℓ : Loc nD τ sig) → Buf (Elt Ideal) ℓ) (ρ : Dev nD → PrngReg)

/-! ## The arrays -/

/-- The block a device computes on is its argument. -/
theorem ublk_eq (c : Dev nD) : ublk m c = m ((c : Thread nD τ).loc main_arg0) := by
  funext x
  show m ((c : Thread nD τ).loc main_arg0) _ = m ((c : Thread nD τ).loc main_arg0) x
  refine congrArg (m ((c : Thread nD τ).loc main_arg0)) (funext fun a => Fin.ext ?_)
  match a with
  | ⟨0, _⟩ => show 0 * 16 + 1 * (x 0).val = (x 0).val; omega
  | ⟨1, _⟩ => show 0 * 16 + 1 * (x 1).val = (x 1).val; omega
  | ⟨2, _⟩ => show 0 * 16 + 1 * (x 2).val = (x 2).val; omega

/-- The result array ends holding what the device stored. -/
theorem finalA_v1 (c : Dev nD) : finalA m c (1 : Fin 2) = outAt m c :=
  (dats m 0 c).arrAt_eq_of_after_last 1 t0_0 (by decide +kernel) (outAt m c) (fun _ => rfl)

/-! ## The masks -/

theorem ori_one (a b : BitVec 1) : IntOp.ori a b = 1 ↔ a = 1 ∨ b = 1 := by revert a b; decide
theorem m_x0 : ∀ (c : Dev nD) (i : Fin 16), IntOp.andi (IntOp.cmpi .eq (BitVec.ofNat 32 i.val) 0#32) (Scalar.cmpi .sgt (wx c) 0#32) = 1 ↔ i.val = 0 ∧ 0 < c.val / 8 := by decide +kernel
theorem m_x1 : ∀ (c : Dev nD) (i : Fin 16), IntOp.andi (IntOp.cmpi .eq (BitVec.ofNat 32 i.val) 15#32) (Scalar.cmpi .slt (wx c) 1#32) = 1 ↔ i.val = 15 ∧ c.val / 8 < 1 := by decide +kernel
theorem m_y0 : ∀ (c : Dev nD) (i : Fin 16), IntOp.andi (IntOp.cmpi .eq (BitVec.ofNat 32 i.val) 0#32) (Scalar.cmpi .sgt (wy c) 0#32) = 1 ↔ i.val = 0 ∧ 0 < c.val / 4 % 2 := by decide +kernel
theorem m_y1 : ∀ (c : Dev nD) (i : Fin 16), IntOp.andi (IntOp.cmpi .eq (BitVec.ofNat 32 i.val) 15#32) (Scalar.cmpi .slt (wy c) 1#32) = 1 ↔ i.val = 15 ∧ c.val / 4 % 2 < 1 := by decide +kernel
theorem m_z0 : ∀ (c : Dev nD) (i : Fin 16), IntOp.andi (IntOp.cmpi .eq (BitVec.ofNat 32 i.val) 0#32) (wDn c) = 1 ↔ i.val = 0 ∧ 0 < c.val % 4 := by decide +kernel
theorem m_z1 : ∀ (c : Dev nD) (i : Fin 16), IntOp.andi (IntOp.cmpi .eq (BitVec.ofNat 32 i.val) 15#32) (wUp c) = 1 ↔ i.val = 15 ∧ c.val % 4 < 3 := by decide +kernel
theorem b_x0 : ∀ (c : Dev nD) (i : Fin 16), IntOp.andi (Scalar.cmpi .eq (wx c) 0#32) (IntOp.cmpi .eq (BitVec.ofNat 32 i.val) 0#32) = 1 ↔ 16 * (c.val / 8) + i.val = 0 := by decide +kernel
theorem b_x1 : ∀ (c : Dev nD) (i : Fin 16), IntOp.andi (Scalar.cmpi .eq (wx c) 1#32) (IntOp.cmpi .eq (BitVec.ofNat 32 i.val) 15#32) = 1 ↔ 16 * (c.val / 8) + i.val = 31 := by decide +kernel
theorem b_y0 : ∀ (c : Dev nD) (i : Fin 16), IntOp.andi (Scalar.cmpi .eq (wy c) 0#32) (IntOp.cmpi .eq (BitVec.ofNat 32 i.val) 0#32) = 1 ↔ 16 * (c.val / 4 % 2) + i.val = 0 := by decide +kernel
theorem b_y1 : ∀ (c : Dev nD) (i : Fin 16), IntOp.andi (Scalar.cmpi .eq (wy c) 1#32) (IntOp.cmpi .eq (BitVec.ofNat 32 i.val) 15#32) = 1 ↔ 16 * (c.val / 4 % 2) + i.val = 31 := by decide +kernel
theorem b_z0 : ∀ (c : Dev nD) (i : Fin 16), IntOp.andi (Scalar.cmpi .eq (wz c) 0#32) (IntOp.cmpi .eq (BitVec.ofNat 32 i.val) 0#32) = 1 ↔ 16 * (c.val % 4) + i.val = 0 := by decide +kernel
theorem b_z1 : ∀ (c : Dev nD) (i : Fin 16), IntOp.andi (Scalar.cmpi .eq (wz c) 3#32) (IntOp.cmpi .eq (BitVec.ofNat 32 i.val) 15#32) = 1 ↔ 16 * (c.val % 4) + i.val = 63 := by decide +kernel

/-! ## A device's value at a point -/

/-- The part of the stencil a device computes from its own block. -/
theorem own_apply (u : FVec Ideal S16x16x16 .f32) (i j k : Fin 16) :
    k0_pay6 (F := Ideal) u (ix3 i j k)
      = ((((((if h : i.val < 1 then 0 else u (ix3 ⟨i.val - 1, by omega⟩ j k)) + if h : i.val < 15 then u (ix3 ⟨1 + i.val, by omega⟩ j k) else 0)
          + if h : j.val < 1 then 0 else u (ix3 i ⟨j.val - 1, by omega⟩ k)) + if h : j.val < 15 then u (ix3 i ⟨1 + j.val, by omega⟩ k) else 0)
          + if h : k.val < 1 then 0 else u (ix3 i j ⟨k.val - 1, by omega⟩)) + if h : k.val < 15 then u (ix3 i j ⟨1 + k.val, by omega⟩) else 0)
        - six * u (ix3 i j k) := by
  pointwise [k0_pay6]

/-- What a device stores at a point of its block. -/
theorem outV_apply (c : Dev nD) (u : FVec Ideal S16x16x16 .f32) (X0 X1 : FVec Ideal S1x16x16 .f32) (Y0 Y1 : FVec Ideal S16x1x16 .f32)
    (Z0 Z1 : FVec Ideal S16x16x1 .f32) (i j k : Fin 16) :
    outV (F := Ideal) c u X0 X1 Y0 Y1 Z0 Z1 (ix3 i j k)
      = if ((((16 * (c.val / 8) + i.val = 0 ∨ 16 * (c.val / 8) + i.val = 31) ∨ 16 * (c.val / 4 % 2) + j.val = 0) ∨ 16 * (c.val / 4 % 2) + j.val = 31)
            ∨ 16 * (c.val % 4) + k.val = 0) ∨ 16 * (c.val % 4) + k.val = 63 then 0
        else k0_pay6 (F := Ideal) u (ix3 i j k) + (if i.val = 0 ∧ 0 < c.val / 8 then X0 (ix3 0 j k) else 0)
          + (if i.val = 15 ∧ c.val / 8 < 1 then X1 (ix3 0 j k) else 0) + (if j.val = 0 ∧ 0 < c.val / 4 % 2 then Y0 (ix3 i 0 k) else 0)
          + (if j.val = 15 ∧ c.val / 4 % 2 < 1 then Y1 (ix3 i 0 k) else 0) + (if k.val = 0 ∧ 0 < c.val % 4 then Z0 (ix3 i j 0) else 0)
          + (if k.val = 15 ∧ c.val % 4 < 3 then Z1 (ix3 i j 0) else 0) := by
  pointwise [outV, k0_pay1, k0_pay12, k0_pay11, k0_pay10, k0_pay8, k0_pay9, k0_pay7, k0_pay13, k0_pay14, k0_pay15, io0, io1, io2, back_x, back_y, back_z]
  simp only [Scalar.select, ori_one, m_x0, m_x1, m_y0, m_y1, m_z0, m_z1, b_x0, b_x1, b_y0, b_y1, b_z0, b_z1]

/-! ## The faces -/

/-- A load of a block at an offset, read at a point. -/
theorem read_off (off off' : Fin 3 → Nat) (h : off = off') (size : Fin 3 → Nat) (inb) (u : S16x16x16.Idx → EReal)
    (x : (Rect.unit (s := S16x16x16) off size inb).shape.Idx) (p q r : Fin 16)
    (hp : p.val = off' 0 + (x 0).val) (hq : q.val = off' 1 + (x 1).val) (hr : r.val = off' 2 + (x 2).val) :
    (Memref.whole cc0_stg0_0 : Memref sig .tc .vmem S16x16x16 .f32).view.readAt (Elt Ideal) (Rect.unit (s := S16x16x16) off size inb).toLoadRect u x = u (ix3 p q r) := by
  subst h
  refine congrArg u (funext fun a => Fin.ext ?_)
  match a with
  | ⟨0, _⟩ => show off 0 + 1 * (x 0).val = p.val; omega
  | ⟨1, _⟩ => show off 1 + 1 * (x 1).val = q.val; omega
  | ⟨2, _⟩ => show off 2 + 1 * (x 2).val = r.val; omega

/-- Across `x` a device sends its last plane if it is first, else its first. -/
theorem face_x (c : Dev nD) (j k : Fin 16) : face m .x c (ix3 0 j k) = m ((c : Thread nD τ).loc main_arg0) (ix3 ⟨if c.val / 8 = 0 then 15 else 0, by split <;> omega⟩ j k) := by
  rw [← ublk_eq m]
  unfold face
  dsimp only
  unfold k0_pay2
  simp only [shapeCast_id]
  exact read_off _ _ (k0_off1_eq c) _ _ _ _ _ _ _ rfl (Nat.zero_add _).symm (Nat.zero_add _).symm
/-- Across `y` likewise. -/
theorem face_y (c : Dev nD) (i k : Fin 16) : face m .y c (ix3 i 0 k) = m ((c : Thread nD τ).loc main_arg0) (ix3 i ⟨if c.val / 4 % 2 = 0 then 15 else 0, by split <;> omega⟩ k) := by
  rw [← ublk_eq m]
  unfold face
  dsimp only
  unfold k0_pay3
  simp only [shapeCast_id]
  exact read_off _ _ (k0_off2_eq c) _ _ _ _ _ _ _ (Nat.zero_add _).symm rfl (Nat.zero_add _).symm
/-- Up `z` a device sends its last plane. -/
theorem face_up (c : Dev nD) (i j : Fin 16) : face m .up c (ix3 i j 0) = m ((c : Thread nD τ).loc main_arg0) (ix3 i j 15) := by
  rw [← ublk_eq m]
  unfold face
  dsimp only
  unfold k0_pay4
  simp only [shapeCast_id]
  exact read_off _ _ rfl _ _ _ _ _ _ _ (Nat.zero_add _).symm (Nat.zero_add _).symm rfl
/-- Down `z` its first. -/
theorem face_dn (c : Dev nD) (i j : Fin 16) : face m .dn c (ix3 i j 0) = m ((c : Thread nD τ).loc main_arg0) (ix3 i j 0) := by
  rw [← ublk_eq m]
  unfold face
  dsimp only
  unfold k0_pay5
  simp only [shapeCast_id]
  exact read_off _ _ rfl _ _ _ _ _ _ _ (Nat.zero_add _).symm (Nat.zero_add _).symm rfl

/-! ## The stencil -/

/-- The block of an array device `c` holds, at a point. -/
theorem block_apply (w : Cert.ReferenceIdeal.S32x32x64.Idx → EReal) (c : Dev nD) (i j k : Fin 16) :
    (Layout.blockN ⟨3, ![16, 16, 16]⟩ ⟨3, ![32, 32, 64]⟩ (Layout.meshBlock [2, 2, 4] ![[0], [1], [2]] c) w : S16x16x16.Idx → EReal) (ix3 i j k)
      = w (ix3 ⟨16 * (c.val / 8) + i.val, by have h : c.val < 16 := c.isLt; omega⟩ ⟨16 * (c.val / 4 % 2) + j.val, by omega⟩ ⟨16 * (c.val % 4) + k.val, by omega⟩) := by
  have hc : c.val < 16 := c.isLt
  rw [Layout.blockN_apply]
  refine congrArg w (funext fun a => Fin.ext ?_)
  match a with
  | ⟨0, _⟩ => show (c.val / 8 % 2 * 1 + 0) * 16 + i.val = 16 * (c.val / 8) + i.val; omega
  | ⟨1, _⟩ => show (c.val / 4 % 2 * 1 + 0) * 16 + j.val = 16 * (c.val / 4 % 2) + j.val; omega
  | ⟨2, _⟩ => show (c.val / 1 % 4 * 1 + 0) * 16 + k.val = 16 * (c.val % 4) + k.val; omega

/-- The point below along an axis: from the block, or from the neighbour's face. -/
theorem below (f : Nat → EReal) (X i : Nat) (e : EReal) (hi : i < 16) (h0 : 16 * X + i ≠ 0) (he : 0 < X → e = f (16 * X - 1)) :
    (if i < 1 then 0 else f (16 * X + (i - 1))) + (if i = 0 ∧ 0 < X then e else 0) = f (16 * X + i - 1) := by
  by_cases h : i < 1
  · rw [if_pos h, if_pos (by omega), he (by omega), zero_add]; congr 1; omega
  · rw [if_neg h, if_neg (by omega), add_zero]; congr 1; omega
/-- The point above. -/
theorem above (f : Nat → EReal) (X n i : Nat) (e : EReal) (hi : i < 16) (hX : X ≤ n) (h0 : 16 * X + i ≠ 16 * n + 15) (he : X < n → e = f (16 * X + 16)) :
    (if i < 15 then f (16 * X + (1 + i)) else 0) + (if i = 15 ∧ X < n then e else 0) = f (16 * X + i + 1) := by
  by_cases h : i < 15
  · rw [if_pos h, if_neg (by omega), add_zero]; congr 1; omega
  · rw [if_neg h, if_pos (by omega), he (by omega), zero_add]; congr 1; omega

/-- The kernel adds the faces' terms last. -/
theorem reorder (a b c d e f g a' b' c' d' e' f' : EReal) :
    ((((((a + b) + c) + d) + e) + f) - g) + a' + b' + c' + d' + e' + f' = (a + a') + (b + b') + (c + c') + (d + d') + (e + e') + (f + f') - g := by
  simp only [sub_eq_add_neg]
  ac_rfl

variable (w : Cert.ReferenceIdeal.S32x32x64.Idx → EReal)
  (hm : ∀ c : Dev nD, m ((c : Thread nD τ).loc main_arg0) = Layout.blockN ⟨3, ![16, 16, 16]⟩ ⟨3, ![32, 32, 64]⟩ (Layout.meshBlock [2, 2, 4] ![[0], [1], [2]] c) w)
include hm

/-- A device's argument at a point of its block is the whole array there. -/
theorem arg_apply (c : Dev nD) (i j k : Fin 16) :
    m ((c : Thread nD τ).loc main_arg0) (ix3 i j k) = at3 w (16 * (c.val / 8) + i.val) (16 * (c.val / 4 % 2) + j.val) (16 * (c.val % 4) + k.val) := by
  rw [hm c]
  exact (block_apply w c i j k).trans (at3_ix3 w _ _ _)

/-- The face a device finds across `x` is the plane just below its block, or just above it. -/
theorem near_x (c : Dev nD) (j k : Fin 16) (p : Nat) (hp : (0 < c.val / 8 ∧ p = 16 * (c.val / 8) - 1) ∨ (c.val / 8 < 1 ∧ p = 16 * (c.val / 8) + 16)) :
    face m .x (nb .x c) (ix3 0 j k) = at3 w p (16 * (c.val / 4 % 2) + j.val) (16 * (c.val % 4) + k.val) := by
  have hc : c.val < 16 := c.isLt
  rw [face_x, arg_apply m w hm]
  have hx := nb_x_div c
  have hn : (nb .x c).val = (c.val + 8) % 16 := rfl
  congr 1
  · show _ + (if (nb .x c).val / 8 = 0 then 15 else 0) = _
    split <;> omega
  · omega
  · omega
/-- Across `y` likewise. -/
theorem near_y (c : Dev nD) (i k : Fin 16) (p : Nat) (hp : (0 < c.val / 4 % 2 ∧ p = 16 * (c.val / 4 % 2) - 1) ∨ (c.val / 4 % 2 < 1 ∧ p = 16 * (c.val / 4 % 2) + 16)) :
    face m .y (nb .y c) (ix3 i 0 k) = at3 w (16 * (c.val / 8) + i.val) p (16 * (c.val % 4) + k.val) := by
  have hc : c.val < 16 := c.isLt
  rw [face_y, arg_apply m w hm]
  have hy := nb_y_div c
  have hn : (nb .y c).val = 8 * (c.val / 8) + (c.val % 8 + 4) % 8 := rfl
  congr 1
  · omega
  · show _ + (if (nb .y c).val / 4 % 2 = 0 then 15 else 0) = _
    split <;> omega
  · omega
/-- The face from below along `z`. -/
theorem near_dn (c : Dev nD) (i j : Fin 16) (h : 0 < c.val % 4) :
    face m .up (nb .dn c) (ix3 i j 0) = at3 w (16 * (c.val / 8) + i.val) (16 * (c.val / 4 % 2) + j.val) (16 * (c.val % 4) - 1) := by
  have hc : c.val < 16 := c.isLt
  rw [face_up, arg_apply m w hm]
  have hn : (nb .dn c).val = 4 * (c.val / 4) + (c.val % 4 + 3) % 4 := rfl
  congr 1
  · omega
  · omega
  · show 16 * _ + 15 = _
    omega
/-- The face from above along `z`. -/
theorem near_up (c : Dev nD) (i j : Fin 16) (h : c.val % 4 < 3) :
    face m .dn (nb .up c) (ix3 i j 0) = at3 w (16 * (c.val / 8) + i.val) (16 * (c.val / 4 % 2) + j.val) (16 * (c.val % 4) + 16) := by
  have hc : c.val < 16 := c.isLt
  rw [face_dn, arg_apply m w hm]
  have hn : (nb .up c).val = 4 * (c.val / 4) + (c.val % 4 + 1) % 4 := rfl
  congr 1
  · omega
  · omega
  · show 16 * _ + 0 = _
    omega

/-- What a device stores at a point of its block is the stencil of the whole array there. -/
theorem outAt_apply (c : Dev nD) (i j k : Fin 16) :
    outAt m c (ix3 i j k) = stencil w (16 * (c.val / 8) + i.val) (16 * (c.val / 4 % 2) + j.val) (16 * (c.val % 4) + k.val) := by
  have hc : c.val < 16 := c.isLt
  have hi := i.isLt
  have hj := j.isLt
  have hk := k.isLt
  unfold outAt stencil
  rw [outV_apply]
  by_cases hb : Inside (16 * (c.val / 8) + i.val) (16 * (c.val / 4 % 2) + j.val) (16 * (c.val % 4) + k.val)
  swap
  · rw [if_neg hb, if_pos (by omega)]
  rw [if_pos hb, if_neg (by omega), own_apply, reorder]
  simp only [ublk_eq, arg_apply m w hm, dite_eq_ite]
  have x0 := below (fun p => at3 w p (16 * (c.val / 4 % 2) + j.val) (16 * (c.val % 4) + k.val)) (c.val / 8) i.val _ hi (by omega) fun h => near_x m w hm c j k _ (.inl ⟨h, rfl⟩)
  have x1 := above (fun p => at3 w p (16 * (c.val / 4 % 2) + j.val) (16 * (c.val % 4) + k.val)) (c.val / 8) 1 i.val _ hi (by omega) (by omega) fun h => near_x m w hm c j k _ (.inr ⟨h, rfl⟩)
  have y0 := below (fun p => at3 w (16 * (c.val / 8) + i.val) p (16 * (c.val % 4) + k.val)) (c.val / 4 % 2) j.val _ hj (by omega) fun h => near_y m w hm c i k _ (.inl ⟨h, rfl⟩)
  have y1 := above (fun p => at3 w (16 * (c.val / 8) + i.val) p (16 * (c.val % 4) + k.val)) (c.val / 4 % 2) 1 j.val _ hj (by omega) (by omega) fun h => near_y m w hm c i k _ (.inr ⟨h, rfl⟩)
  have z0 := below (fun p => at3 w (16 * (c.val / 8) + i.val) (16 * (c.val / 4 % 2) + j.val) p) (c.val % 4) k.val _ hk (by omega) fun h => near_dn m w hm c i j h
  have z1 := above (fun p => at3 w (16 * (c.val / 8) + i.val) (16 * (c.val / 4 % 2) + j.val) p) (c.val % 4) 3 k.val _ hk (by omega) (by omega) fun h => near_up m w hm c i j h
  beta_reduce at x0 x1 y0 y1 z0 z1
  rw [x0, x1, y0, y1, z0, z1]

/-- Every device's result is its block of the reference's result. -/
theorem outAt_eq (c : Dev nD) :
    outAt m c = Layout.blockN ⟨3, ![16, 16, 16]⟩ ⟨3, ![32, 32, 64]⟩ (Layout.meshBlock [2, 2, 4] ![[0], [1], [2]] c) (Cert.ReferenceIdeal.Stencil.result w) := by
  funext x
  rw [eq_ix3 x]
  exact (outAt_apply m w hm c _ _ _).trans ((block_apply _ c _ _ _).trans (Cert.ReferenceIdeal.Stencil.result_apply w _ _ _)).symm

/-- The kernel's run on blocks of an array: every device ends with its block of the reference's result, its argument unchanged. -/
theorem run_value : θ_run (defs (F := Ideal)) (onTc (τ := τ) (main (F := Ideal))) ⟨m, fun _ => 0, ρ⟩ (fun r => ∀ c : Dev nD,
    r.2.mem ((c.tc : Thread nD τ).loc main_v1)
        = Layout.blockN ⟨3, ![16, 16, 16]⟩ ⟨3, ![32, 32, 64]⟩ (Layout.meshBlock [2, 2, 4] ![[0], [1], [2]] c) (Cert.ReferenceIdeal.Stencil.result w)
    ∧ r.2.mem ((c.tc : Thread nD τ).loc main_arg0) = m ((c.tc : Thread nD τ).loc main_arg0)) :=
  (θ_run defs _ _).mono (fun _ h c => ⟨((h.1 c 1).trans (finalA_v1 m c)).trans (outAt_eq m w hm c), (h.1 c 0).trans (finalA_u m c)⟩) (run_main m ρ)

end Cert.KernelIdeal.Halo

end
-- ==== Proof.lean ====
/-
  The proof of the certificate's claim: the kernel and its idealization run, end with their argument unchanged and every
  semaphore at zero, and so does the reference; and in exact arithmetic the idealization's results on the sixteen devices are the
  blocks of the reference's result.
-/
module

public import proofs.«01_k».proof.Defs
public import proofs.«01_k».proof.Proof.Launch
public import proofs.«01_k».proof.Proof.ValueIdeal
public import Idealize.ShloMosaic.Adequacy
public import Idealize.ShloMosaic.Init

@[expose] public section

noncomputable section

namespace Cert.Proof

open Idealize.ShloMosaic Idealize.SL.Sem

/-- The kernel ends with its argument unchanged and every semaphore at zero. -/
theorem frame_kernel : Cert.quiescent_Kernel := fun m ρ _ => Cert.Kernel.Halo.run_quiescent m ρ

/-- So does its idealization. -/
theorem frame_ideal : Cert.quiescent_KernelIdeal := fun m ρ _ => Cert.KernelIdeal.Halo.run_quiescent m ρ

/-- So does the reference, which has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- From blocks of one array, every device ends with its block of what the reference computes of that array. -/
theorem algebraic : Cert.algebraic_KernelIdeal_ReferenceIdeal := fun m ρ m' ρ' _ hm =>
  ⟨Cert.ReferenceIdeal.Stencil.result (m' (((0 : Dev Cert.ReferenceIdeal.nD).tc : Thread Cert.ReferenceIdeal.nD Cert.ReferenceIdeal.τ).loc Cert.ReferenceIdeal.main_arg0)),
    Cert.KernelIdeal.Halo.run_value m ρ _ hm, Cert.ReferenceIdeal.Stencil.run m' ρ'⟩

theorem claim : Cert.Claim := ⟨Cert.Kernel.Gen.facts, Cert.KernelIdeal.Gen.facts, Cert.ReferenceIdeal.Gen.facts,
  frame_kernel, frame_ideal, frame_reference, trivial, algebraic⟩

end Cert.Proof

end
